-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![1024, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S_ : Shape := ⟨0, ![]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S1024x256 .f32) (main_arg1 : FVec F S256x128 .f32) (main_arg2 : IVec S1024x2 32) (main_arg3 : FVec F S4x256x512 .f32) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 128#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_c_1 : IVec S_ 1 := constantI S_ 1 1#1
  let main_v5 : IVec S_ 1 := (fun x v => Host.reduce IntOp.andi x v reducesTo_S1024x2_S_d0_1 h_S_) main_v4 main_c_1
  let main_v6 : FVec F S1024x256 .f32 := Host.absf main_arg0
  let main_cst : FVec F S_ .f32 := constant S_ .f32 0x7F800000#32
  let main_v7 : FVec F S1024x256 .f32 := broadcastInDim S1024x256 ![] bcast_S_S1024x256 main_cst
  let main_v8 : IVec S1024x256 1 := cmpf .olt main_v6 main_v7
  let main_c_2 : IVec S_ 1 := constantI S_ 1 1#1
  let main_v9 : IVec S_ 1 := (fun x v => Host.reduce IntOp.andi x v reducesTo_S1024x256_S_d0_1 h_S_) main_v8 main_c_2
  let main_v10 : IVec S_ 1 := andi main_v5 main_v9
  let main_v11 : FVec F S256x128 .f32 := Host.absf main_arg1
  let main_cst_3 : FVec F S_ .f32 := constant S_ .f32 0x7F800000#32
  let main_v12 : FVec F S256x128 .f32 := broadcastInDim S256x128 ![] bcast_S_S256x128 main_cst_3
  let main_v13 : IVec S256x128 1 := cmpf .olt main_v11 main_v12
  let main_c_4 : IVec S_ 1 := constantI S_ 1 1#1
  let main_v14 : IVec S_ 1 := (fun x v => Host.reduce IntOp.andi x v reducesTo_S256x128_S_d0_1 h_S_) main_v13 main_c_4
  let main_v15 : IVec S_ 1 := andi main_v10 main_v14
  main_v15
-- ==== Pre_routed_ReferenceIdeal.lean ====
abbrev S1024x256 : Shape := ⟨2, ![1024, 256]⟩
abbrev S256x128 : Shape := ⟨2, ![256, 128]⟩
abbrev S1024x2 : Shape := ⟨2, ![1024, 2]⟩
abbrev S128x256x512 : Shape := ⟨3, ![128, 256, 512]⟩
abbrev S_ : Shape := ⟨0, ![]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S1024x256 .f32) (main_arg1 : FVec F S256x128 .f32) (main_arg2 : IVec S1024x2 32) (main_arg3 : FVec F S128x256x512 .f32) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 128#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_c_1 : IVec S_ 1 := constantI S_ 1 1#1
  let main_v5 : IVec S_ 1 := (fun x v => Host.reduce IntOp.andi x v reducesTo_S1024x2_S_d0_1 h_S_) main_v4 main_c_1
  let main_v6 : FVec F S1024x256 .f32 := Host.absf main_arg0
  let main_cst : FVec F S_ .f32 := constant S_ .f32 0x7F800000#32
  let main_v7 : FVec F S1024x256 .f32 := broadcastInDim S1024x256 ![] bcast_S_S1024x256 main_cst
  let main_v8 : IVec S1024x256 1 := cmpf .olt main_v6 main_v7
  let main_c_2 : IVec S_ 1 := constantI S_ 1 1#1
  let main_v9 : IVec S_ 1 := (fun x v => Host.reduce IntOp.andi x v reducesTo_S1024x256_S_d0_1 h_S_) main_v8 main_c_2
  let main_v10 : IVec S_ 1 := andi main_v5 main_v9
  let main_v11 : FVec F S256x128 .f32 := Host.absf main_arg1
  let main_cst_3 : FVec F S_ .f32 := constant S_ .f32 0x7F800000#32
  let main_v12 : FVec F S256x128 .f32 := broadcastInDim S256x128 ![] bcast_S_S256x128 main_cst_3
  let main_v13 : IVec S256x128 1 := cmpf .olt main_v11 main_v12
  let main_c_4 : IVec S_ 1 := constantI S_ 1 1#1
  let main_v14 : IVec S_ 1 := (fun x v => Host.reduce IntOp.andi x v reducesTo_S256x128_S_d0_1 h_S_) main_v13 main_c_4
  let main_v15 : IVec S_ 1 := andi main_v10 main_v14
  main_v15
-- ==== Kernel.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S32x512 : Shape := ⟨2, ![32, 512]⟩
abbrev S1024x512 : Shape := ⟨2, ![1024, 512]⟩
abbrev S32x32x512 : Shape := ⟨3, ![32, 32, 512]⟩
abbrev S32 : Shape := ⟨1, ![32]⟩
abbrev S1024x128 : Shape := ⟨2, ![1024, 128]⟩
abbrev S1024 : Shape := ⟨1, ![1024]⟩
abbrev S1024x1 : Shape := ⟨2, ![1024, 1]⟩
abbrev S1x256x512 : Shape := ⟨3, ![1, 256, 512]⟩
abbrev S256x512 : Shape := ⟨2, ![256, 512]⟩
abbrev S_ : Shape := ⟨0, ![]⟩
abbrev S1 : Shape := ⟨1, ![1]⟩
abbrev S1x32x512 : Shape := ⟨3, ![1, 32, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x2, .i32⟩
  | .hbm, ⟨3, _⟩ => ⟨S4x256x512, .f32⟩
  | .hbm, ⟨4, _⟩ => ⟨S32x512, .f32⟩
  | .local _ .vmem, ⟨0, _⟩ => ⟨S1024x256, .f32⟩
  | .local _ .vmem, ⟨1, _⟩ => ⟨S256x128, .f32⟩
  | .local _ .vmem, ⟨2, _⟩ => ⟨S1024x2, .i32⟩
  | .local _ .vmem, ⟨3, _⟩ => ⟨S4x256x512, .f32⟩
  | .local _ .vmem, ⟨4, _⟩ => ⟨S32x512, .f32⟩
  | .local _ .vmem, ⟨5, _⟩ => ⟨S1024x512, .f32⟩
  | .local _ .vmem, ⟨6, _⟩ => ⟨S32x32x512, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_41 : BitVec 32 := 1#32
  let v112 : BitVec 32 := Scalar.addi v2 c1_i32_41
  let c32_i32_42 : BitVec 32 := 32#32
  let v113 : BitVec 32 := Scalar.remsi v112 c32_i32_42
  let c1_i32_44 : BitVec 32 := 1#32
  let v114 : BitVec 32 := Scalar.muli v113 c1_i32_44
  let v115 : BitVec 32 := Scalar.addi c0_i32_45 v114
  v115.toNat
def k0_dev2 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_46 : BitVec 32 := 2#32
  let v116 : BitVec 32 := Scalar.addi v2 c2_i32_46
  let c32_i32_47 : BitVec 32 := 32#32
  let v117 : BitVec 32 := Scalar.remsi v116 c32_i32_47
  let c1_i32_49 : BitVec 32 := 1#32
  let v118 : BitVec 32 := Scalar.muli v117 c1_i32_49
  let v119 : BitVec 32 := Scalar.addi c0_i32_50 v118
  v119.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_51 : BitVec 32 := 3#32
  let v120 : BitVec 32 := Scalar.addi v2 c3_i32_51
  let c32_i32_52 : BitVec 32 := 32#32
  let v121 : BitVec 32 := Scalar.remsi v120 c32_i32_52
  let c1_i32_54 : BitVec 32 := 1#32
  let v122 : BitVec 32 := Scalar.muli v121 c1_i32_54
  let v123 : BitVec 32 := Scalar.addi c0_i32_55 v122
  v123.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_56 : BitVec 32 := 4#32
  let v124 : BitVec 32 := Scalar.addi v2 c4_i32_56
  let c32_i32_57 : BitVec 32 := 32#32
  let v125 : BitVec 32 := Scalar.remsi v124 c32_i32_57
  let c1_i32_59 : BitVec 32 := 1#32
  let v126 : BitVec 32 := Scalar.muli v125 c1_i32_59
  let v127 : BitVec 32 := Scalar.addi c0_i32_60 v126
  v127.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v128 : BitVec 32 := Scalar.addi v2 c5_i32
  let c32_i32_61 : BitVec 32 := 32#32
  let v129 : BitVec 32 := Scalar.remsi v128 c32_i32_61
  let c1_i32_63 : BitVec 32 := 1#32
  let v130 : BitVec 32 := Scalar.muli v129 c1_i32_63
  let v131 : BitVec 32 := Scalar.addi c0_i32_64 v130
  v131.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v132 : BitVec 32 := Scalar.addi v2 c6_i32
  let c32_i32_65 : BitVec 32 := 32#32
  let v133 : BitVec 32 := Scalar.remsi v132 c32_i32_65
  let c1_i32_67 : BitVec 32 := 1#32
  let v134 : BitVec 32 := Scalar.muli v133 c1_i32_67
  let v135 : BitVec 32 := Scalar.addi c0_i32_68 v134
  v135.toNat
def k0_dev7 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v136 : BitVec 32 := Scalar.addi v2 c7_i32
  let c32_i32_69 : BitVec 32 := 32#32
  let v137 : BitVec 32 := Scalar.remsi v136 c32_i32_69
  let c1_i32_71 : BitVec 32 := 1#32
  let v138 : BitVec 32 := Scalar.muli v137 c1_i32_71
  let v139 : BitVec 32 := Scalar.addi c0_i32_72 v138
  v139.toNat
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v140 : BitVec 32 := Scalar.addi v2 c8_i32
  let c32_i32_73 : BitVec 32 := 32#32
  let v141 : BitVec 32 := Scalar.remsi v140 c32_i32_73
  let c1_i32_75 : BitVec 32 := 1#32
  let v142 : BitVec 32 := Scalar.muli v141 c1_i32_75
  let v143 : BitVec 32 := Scalar.addi c0_i32_76 v142
  v143.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v144 : BitVec 32 := Scalar.addi v2 c9_i32
  let c32_i32_77 : BitVec 32 := 32#32
  let v145 : BitVec 32 := Scalar.remsi v144 c32_i32_77
  let c1_i32_79 : BitVec 32 := 1#32
  let v146 : BitVec 32 := Scalar.muli v145 c1_i32_79
  let v147 : BitVec 32 := Scalar.addi c0_i32_80 v146
  v147.toNat
def k0_dev10 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v148 : BitVec 32 := Scalar.addi v2 c10_i32
  let c32_i32_81 : BitVec 32 := 32#32
  let v149 : BitVec 32 := Scalar.remsi v148 c32_i32_81
  let c1_i32_83 : BitVec 32 := 1#32
  let v150 : BitVec 32 := Scalar.muli v149 c1_i32_83
  let v151 : BitVec 32 := Scalar.addi c0_i32_84 v150
  v151.toNat
def k0_dev11 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v152 : BitVec 32 := Scalar.addi v2 c11_i32
  let c32_i32_85 : BitVec 32 := 32#32
  let v153 : BitVec 32 := Scalar.remsi v152 c32_i32_85
  let c1_i32_87 : BitVec 32 := 1#32
  let v154 : BitVec 32 := Scalar.muli v153 c1_i32_87
  let v155 : BitVec 32 := Scalar.addi c0_i32_88 v154
  v155.toNat
def k0_dev12 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v156 : BitVec 32 := Scalar.addi v2 c12_i32
  let c32_i32_89 : BitVec 32 := 32#32
  let v157 : BitVec 32 := Scalar.remsi v156 c32_i32_89
  let c1_i32_91 : BitVec 32 := 1#32
  let v158 : BitVec 32 := Scalar.muli v157 c1_i32_91
  let v159 : BitVec 32 := Scalar.addi c0_i32_92 v158
  v159.toNat
def k0_dev13 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_93 : BitVec 32 := 32#32
  let v161 : BitVec 32 := Scalar.remsi v160 c32_i32_93
  let c1_i32_95 : BitVec 32 := 1#32
  let v162 : BitVec 32 := Scalar.muli v161 c1_i32_95
  let v163 : BitVec 32 := Scalar.addi c0_i32_96 v162
  v163.toNat
def k0_dev14 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v164 : BitVec 32 := Scalar.addi v2 c14_i32
  let c32_i32_97 : BitVec 32 := 32#32
  let v165 : BitVec 32 := Scalar.remsi v164 c32_i32_97
  let c1_i32_99 : BitVec 32 := 1#32
  let v166 : BitVec 32 := Scalar.muli v165 c1_i32_99
  let v167 : BitVec 32 := Scalar.addi c0_i32_100 v166
  v167.toNat
def k0_dev15 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v168 : BitVec 32 := Scalar.addi v2 c15_i32
  let c32_i32_101 : BitVec 32 := 32#32
  let v169 : BitVec 32 := Scalar.remsi v168 c32_i32_101
  let c1_i32_103 : BitVec 32 := 1#32
  let v170 : BitVec 32 := Scalar.muli v169 c1_i32_103
  let v171 : BitVec 32 := Scalar.addi c0_i32_104 v170
  v171.toNat
def k0_dev16 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v172 : BitVec 32 := Scalar.addi v2 c16_i32
  let c32_i32_105 : BitVec 32 := 32#32
  let v173 : BitVec 32 := Scalar.remsi v172 c32_i32_105
  let c1_i32_107 : BitVec 32 := 1#32
  let v174 : BitVec 32 := Scalar.muli v173 c1_i32_107
  let v175 : BitVec 32 := Scalar.addi c0_i32_108 v174
  v175.toNat
def k0_dev17 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v176 : BitVec 32 := Scalar.addi v2 c17_i32
  let c32_i32_109 : BitVec 32 := 32#32
  let v177 : BitVec 32 := Scalar.remsi v176 c32_i32_109
  let c1_i32_111 : BitVec 32 := 1#32
  let v178 : BitVec 32 := Scalar.muli v177 c1_i32_111
  let v179 : BitVec 32 := Scalar.addi c0_i32_112 v178
  v179.toNat
def k0_dev18 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v180 : BitVec 32 := Scalar.addi v2 c18_i32
  let c32_i32_113 : BitVec 32 := 32#32
  let v181 : BitVec 32 := Scalar.remsi v180 c32_i32_113
  let c1_i32_115 : BitVec 32 := 1#32
  let v182 : BitVec 32 := Scalar.muli v181 c1_i32_115
  let v183 : BitVec 32 := Scalar.addi c0_i32_116 v182
  v183.toNat
def k0_dev19 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v184 : BitVec 32 := Scalar.addi v2 c19_i32
  let c32_i32_117 : BitVec 32 := 32#32
  let v185 : BitVec 32 := Scalar.remsi v184 c32_i32_117
  let c1_i32_119 : BitVec 32 := 1#32
  let v186 : BitVec 32 := Scalar.muli v185 c1_i32_119
  let v187 : BitVec 32 := Scalar.addi c0_i32_120 v186
  v187.toNat
def k0_dev20 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v188 : BitVec 32 := Scalar.addi v2 c20_i32
  let c32_i32_121 : BitVec 32 := 32#32
  let v189 : BitVec 32 := Scalar.remsi v188 c32_i32_121
  let c1_i32_123 : BitVec 32 := 1#32
  let v190 : BitVec 32 := Scalar.muli v189 c1_i32_123
  let v191 : BitVec 32 := Scalar.addi c0_i32_124 v190
  v191.toNat
def k0_dev21 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v192 : BitVec 32 := Scalar.addi v2 c21_i32
  let c32_i32_125 : BitVec 32 := 32#32
  let v193 : BitVec 32 := Scalar.remsi v192 c32_i32_125
  let c1_i32_127 : BitVec 32 := 1#32
  let v194 : BitVec 32 := Scalar.muli v193 c1_i32_127
  let v195 : BitVec 32 := Scalar.addi c0_i32_128 v194
  v195.toNat
def k0_dev22 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v196 : BitVec 32 := Scalar.addi v2 c22_i32
  let c32_i32_129 : BitVec 32 := 32#32
  let v197 : BitVec 32 := Scalar.remsi v196 c32_i32_129
  let c1_i32_131 : BitVec 32 := 1#32
  let v198 : BitVec 32 := Scalar.muli v197 c1_i32_131
  let v199 : BitVec 32 := Scalar.addi c0_i32_132 v198
  v199.toNat
def k0_dev23 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v200 : BitVec 32 := Scalar.addi v2 c23_i32
  let c32_i32_133 : BitVec 32 := 32#32
  let v201 : BitVec 32 := Scalar.remsi v200 c32_i32_133
  let c1_i32_135 : BitVec 32 := 1#32
  let v202 : BitVec 32 := Scalar.muli v201 c1_i32_135
  let v203 : BitVec 32 := Scalar.addi c0_i32_136 v202
  v203.toNat
def k0_dev24 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v204 : BitVec 32 := Scalar.addi v2 c24_i32
  let c32_i32_137 : BitVec 32 := 32#32
  let v205 : BitVec 32 := Scalar.remsi v204 c32_i32_137
  let c1_i32_139 : BitVec 32 := 1#32
  let v206 : BitVec 32 := Scalar.muli v205 c1_i32_139
  let v207 : BitVec 32 := Scalar.addi c0_i32_140 v206
  v207.toNat
def k0_dev25 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v208 : BitVec 32 := Scalar.addi v2 c25_i32
  let c32_i32_141 : BitVec 32 := 32#32
  let v209 : BitVec 32 := Scalar.remsi v208 c32_i32_141
  let c1_i32_143 : BitVec 32 := 1#32
  let v210 : BitVec 32 := Scalar.muli v209 c1_i32_143
  let v211 : BitVec 32 := Scalar.addi c0_i32_144 v210
  v211.toNat
def k0_dev26 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v212 : BitVec 32 := Scalar.addi v2 c26_i32
  let c32_i32_145 : BitVec 32 := 32#32
  let v213 : BitVec 32 := Scalar.remsi v212 c32_i32_145
  let c1_i32_147 : BitVec 32 := 1#32
  let v214 : BitVec 32 := Scalar.muli v213 c1_i32_147
  let v215 : BitVec 32 := Scalar.addi c0_i32_148 v214
  v215.toNat
def k0_dev27 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v216 : BitVec 32 := Scalar.addi v2 c27_i32
  let c32_i32_149 : BitVec 32 := 32#32
  let v217 : BitVec 32 := Scalar.remsi v216 c32_i32_149
  let c1_i32_151 : BitVec 32 := 1#32
  let v218 : BitVec 32 := Scalar.muli v217 c1_i32_151
  let v219 : BitVec 32 := Scalar.addi c0_i32_152 v218
  v219.toNat
def k0_dev28 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v220 : BitVec 32 := Scalar.addi v2 c28_i32
  let c32_i32_153 : BitVec 32 := 32#32
  let v221 : BitVec 32 := Scalar.remsi v220 c32_i32_153
  let c1_i32_155 : BitVec 32 := 1#32
  let v222 : BitVec 32 := Scalar.muli v221 c1_i32_155
  let v223 : BitVec 32 := Scalar.addi c0_i32_156 v222
  v223.toNat
def k0_dev29 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v224 : BitVec 32 := Scalar.addi v2 c29_i32
  let c32_i32_157 : BitVec 32 := 32#32
  let v225 : BitVec 32 := Scalar.remsi v224 c32_i32_157
  let c1_i32_159 : BitVec 32 := 1#32
  let v226 : BitVec 32 := Scalar.muli v225 c1_i32_159
  let v227 : BitVec 32 := Scalar.addi c0_i32_160 v226
  v227.toNat
def k0_dev30 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v228 : BitVec 32 := Scalar.addi v2 c30_i32
  let c32_i32_161 : BitVec 32 := 32#32
  let v229 : BitVec 32 := Scalar.remsi v228 c32_i32_161
  let c1_i32_163 : BitVec 32 := 1#32
  let v230 : BitVec 32 := Scalar.muli v229 c1_i32_163
  let v231 : BitVec 32 := Scalar.addi c0_i32_164 v230
  v231.toNat
def k0_dev31 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v232 : BitVec 32 := Scalar.addi v2 c31_i32
  let c32_i32_165 : BitVec 32 := 32#32
  let v233 : BitVec 32 := Scalar.remsi v232 c32_i32_165
  let c1_i32_167 : BitVec 32 := 1#32
  let v234 : BitVec 32 := Scalar.muli v233 c1_i32_167
  let v235 : BitVec 32 := Scalar.addi c0_i32_168 v234
  v235.toNat
def k0_off1 (d0 : Dev nD) (c1_i32_170 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v236 : BitVec 32 := Scalar.addi v2 c1_i32_170
  let c32_i32_171 : BitVec 32 := 32#32
  let v237 : BitVec 32 := Scalar.remsi v236 c32_i32_171
  let c32_i32_172 : BitVec 32 := 32#32
  let v238 : BitVec 32 := Scalar.muli v237 c32_i32_172
  let c0_i32_180 : BitVec 32 := 0#32
  ![v238.toNat, 0]
def k0_dev32 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_170 : BitVec 32 := 1#32
  let v236 : BitVec 32 := Scalar.addi v2 c1_i32_170
  let c32_i32_171 : BitVec 32 := 32#32
  let v237 : BitVec 32 := Scalar.remsi v236 c32_i32_171
  let c1_i32_176 : BitVec 32 := 1#32
  let v239 : BitVec 32 := Scalar.muli v237 c1_i32_176
  let v240 : BitVec 32 := Scalar.addi c0_i32_177 v239
  v240.toNat
def k0_dev33 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_181 : BitVec 32 := 2#32
  let v248 : BitVec 32 := Scalar.addi v2 c2_i32_181
  let c32_i32_182 : BitVec 32 := 32#32
  let v249 : BitVec 32 := Scalar.remsi v248 c32_i32_182
  let c1_i32_187 : BitVec 32 := 1#32
  let v251 : BitVec 32 := Scalar.muli v249 c1_i32_187
  let v252 : BitVec 32 := Scalar.addi c0_i32_188 v251
  v252.toNat
def k0_dev34 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_192 : BitVec 32 := 3#32
  let v260 : BitVec 32 := Scalar.addi v2 c3_i32_192
  let c32_i32_193 : BitVec 32 := 32#32
  let v261 : BitVec 32 := Scalar.remsi v260 c32_i32_193
  let c1_i32_198 : BitVec 32 := 1#32
  let v263 : BitVec 32 := Scalar.muli v261 c1_i32_198
  let v264 : BitVec 32 := Scalar.addi c0_i32_199 v263
  v264.toNat
def k0_dev35 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_203 : BitVec 32 := 4#32
  let v272 : BitVec 32 := Scalar.addi v2 c4_i32_203
  let c32_i32_204 : BitVec 32 := 32#32
  let v273 : BitVec 32 := Scalar.remsi v272 c32_i32_204
  let c1_i32_209 : BitVec 32 := 1#32
  let v275 : BitVec 32 := Scalar.muli v273 c1_i32_209
  let v276 : BitVec 32 := Scalar.addi c0_i32_210 v275
  v276.toNat
def k0_dev36 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_214 : BitVec 32 := 5#32
  let v284 : BitVec 32 := Scalar.addi v2 c5_i32_214
  let c32_i32_215 : BitVec 32 := 32#32
  let v285 : BitVec 32 := Scalar.remsi v284 c32_i32_215
  let c1_i32_220 : BitVec 32 := 1#32
  let v287 : BitVec 32 := Scalar.muli v285 c1_i32_220
  let v288 : BitVec 32 := Scalar.addi c0_i32_221 v287
  v288.toNat
def k0_dev37 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_225 : BitVec 32 := 6#32
  let v296 : BitVec 32 := Scalar.addi v2 c6_i32_225
  let c32_i32_226 : BitVec 32 := 32#32
  let v297 : BitVec 32 := Scalar.remsi v296 c32_i32_226
  let c1_i32_231 : BitVec 32 := 1#32
  let v299 : BitVec 32 := Scalar.muli v297 c1_i32_231
  let v300 : BitVec 32 := Scalar.addi c0_i32_232 v299
  v300.toNat
def k0_dev38 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_236 : BitVec 32 := 7#32
  let v308 : BitVec 32 := Scalar.addi v2 c7_i32_236
  let c32_i32_237 : BitVec 32 := 32#32
  let v309 : BitVec 32 := Scalar.remsi v308 c32_i32_237
  let c1_i32_242 : BitVec 32 := 1#32
  let v311 : BitVec 32 := Scalar.muli v309 c1_i32_242
  let v312 : BitVec 32 := Scalar.addi c0_i32_243 v311
  v312.toNat
def k0_dev39 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_247 : BitVec 32 := 8#32
  let v320 : BitVec 32 := Scalar.addi v2 c8_i32_247
  let c32_i32_248 : BitVec 32 := 32#32
  let v321 : BitVec 32 := Scalar.remsi v320 c32_i32_248
  let c1_i32_253 : BitVec 32 := 1#32
  let v323 : BitVec 32 := Scalar.muli v321 c1_i32_253
  let v324 : BitVec 32 := Scalar.addi c0_i32_254 v323
  v324.toNat
def k0_dev40 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_258 : BitVec 32 := 9#32
  let v332 : BitVec 32 := Scalar.addi v2 c9_i32_258
  let c32_i32_259 : BitVec 32 := 32#32
  let v333 : BitVec 32 := Scalar.remsi v332 c32_i32_259
  let c1_i32_264 : BitVec 32 := 1#32
  let v335 : BitVec 32 := Scalar.muli v333 c1_i32_264
  let v336 : BitVec 32 := Scalar.addi c0_i32_265 v335
  v336.toNat
def k0_dev41 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_269 : BitVec 32 := 10#32
  let v344 : BitVec 32 := Scalar.addi v2 c10_i32_269
  let c32_i32_270 : BitVec 32 := 32#32
  let v345 : BitVec 32 := Scalar.remsi v344 c32_i32_270
  let c1_i32_275 : BitVec 32 := 1#32
  let v347 : BitVec 32 := Scalar.muli v345 c1_i32_275
  let v348 : BitVec 32 := Scalar.addi c0_i32_276 v347
  v348.toNat
def k0_dev42 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_280 : BitVec 32 := 11#32
  let v356 : BitVec 32 := Scalar.addi v2 c11_i32_280
  let c32_i32_281 : BitVec 32 := 32#32
  let v357 : BitVec 32 := Scalar.remsi v356 c32_i32_281
  let c1_i32_286 : BitVec 32 := 1#32
  let v359 : BitVec 32 := Scalar.muli v357 c1_i32_286
  let v360 : BitVec 32 := Scalar.addi c0_i32_287 v359
  v360.toNat
def k0_dev43 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_291 : BitVec 32 := 12#32
  let v368 : BitVec 32 := Scalar.addi v2 c12_i32_291
  let c32_i32_292 : BitVec 32 := 32#32
  let v369 : BitVec 32 := Scalar.remsi v368 c32_i32_292
  let c1_i32_297 : BitVec 32 := 1#32
  let v371 : BitVec 32 := Scalar.muli v369 c1_i32_297
  let v372 : BitVec 32 := Scalar.addi c0_i32_298 v371
  v372.toNat
def k0_dev44 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_302 : BitVec 32 := 13#32
  let v380 : BitVec 32 := Scalar.addi v2 c13_i32_302
  let c32_i32_303 : BitVec 32 := 32#32
  let v381 : BitVec 32 := Scalar.remsi v380 c32_i32_303
  let c1_i32_308 : BitVec 32 := 1#32
  let v383 : BitVec 32 := Scalar.muli v381 c1_i32_308
  let v384 : BitVec 32 := Scalar.addi c0_i32_309 v383
  v384.toNat
def k0_dev45 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_313 : BitVec 32 := 14#32
  let v392 : BitVec 32 := Scalar.addi v2 c14_i32_313
  let c32_i32_314 : BitVec 32 := 32#32
  let v393 : BitVec 32 := Scalar.remsi v392 c32_i32_314
  let c1_i32_319 : BitVec 32 := 1#32
  let v395 : BitVec 32 := Scalar.muli v393 c1_i32_319
  let v396 : BitVec 32 := Scalar.addi c0_i32_320 v395
  v396.toNat
def k0_dev46 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_324 : BitVec 32 := 15#32
  let v404 : BitVec 32 := Scalar.addi v2 c15_i32_324
  let c32_i32_325 : BitVec 32 := 32#32
  let v405 : BitVec 32 := Scalar.remsi v404 c32_i32_325
  let c1_i32_330 : BitVec 32 := 1#32
  let v407 : BitVec 32 := Scalar.muli v405 c1_i32_330
  let v408 : BitVec 32 := Scalar.addi c0_i32_331 v407
  v408.toNat
def k0_dev47 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_335 : BitVec 32 := 16#32
  let v416 : BitVec 32 := Scalar.addi v2 c16_i32_335
  let c32_i32_336 : BitVec 32 := 32#32
  let v417 : BitVec 32 := Scalar.remsi v416 c32_i32_336
  let c1_i32_341 : BitVec 32 := 1#32
  let v419 : BitVec 32 := Scalar.muli v417 c1_i32_341
  let v420 : BitVec 32 := Scalar.addi c0_i32_342 v419
  v420.toNat
def k0_dev48 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_346 : BitVec 32 := 17#32
  let v428 : BitVec 32 := Scalar.addi v2 c17_i32_346
  let c32_i32_347 : BitVec 32 := 32#32
  let v429 : BitVec 32 := Scalar.remsi v428 c32_i32_347
  let c1_i32_352 : BitVec 32 := 1#32
  let v431 : BitVec 32 := Scalar.muli v429 c1_i32_352
  let v432 : BitVec 32 := Scalar.addi c0_i32_353 v431
  v432.toNat
def k0_dev49 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_357 : BitVec 32 := 18#32
  let v440 : BitVec 32 := Scalar.addi v2 c18_i32_357
  let c32_i32_358 : BitVec 32 := 32#32
  let v441 : BitVec 32 := Scalar.remsi v440 c32_i32_358
  let c1_i32_363 : BitVec 32 := 1#32
  let v443 : BitVec 32 := Scalar.muli v441 c1_i32_363
  let v444 : BitVec 32 := Scalar.addi c0_i32_364 v443
  v444.toNat
def k0_dev50 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_368 : BitVec 32 := 19#32
  let v452 : BitVec 32 := Scalar.addi v2 c19_i32_368
  let c32_i32_369 : BitVec 32 := 32#32
  let v453 : BitVec 32 := Scalar.remsi v452 c32_i32_369
  let c1_i32_374 : BitVec 32 := 1#32
  let v455 : BitVec 32 := Scalar.muli v453 c1_i32_374
  let v456 : BitVec 32 := Scalar.addi c0_i32_375 v455
  v456.toNat
def k0_dev51 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_379 : BitVec 32 := 20#32
  let v464 : BitVec 32 := Scalar.addi v2 c20_i32_379
  let c32_i32_380 : BitVec 32 := 32#32
  let v465 : BitVec 32 := Scalar.remsi v464 c32_i32_380
  let c1_i32_385 : BitVec 32 := 1#32
  let v467 : BitVec 32 := Scalar.muli v465 c1_i32_385
  let v468 : BitVec 32 := Scalar.addi c0_i32_386 v467
  v468.toNat
def k0_dev52 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_390 : BitVec 32 := 21#32
  let v476 : BitVec 32 := Scalar.addi v2 c21_i32_390
  let c32_i32_391 : BitVec 32 := 32#32
  let v477 : BitVec 32 := Scalar.remsi v476 c32_i32_391
  let c1_i32_396 : BitVec 32 := 1#32
  let v479 : BitVec 32 := Scalar.muli v477 c1_i32_396
  let v480 : BitVec 32 := Scalar.addi c0_i32_397 v479
  v480.toNat
def k0_dev53 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_401 : BitVec 32 := 22#32
  let v488 : BitVec 32 := Scalar.addi v2 c22_i32_401
  let c32_i32_402 : BitVec 32 := 32#32
  let v489 : BitVec 32 := Scalar.remsi v488 c32_i32_402
  let c1_i32_407 : BitVec 32 := 1#32
  let v491 : BitVec 32 := Scalar.muli v489 c1_i32_407
  let v492 : BitVec 32 := Scalar.addi c0_i32_408 v491
  v492.toNat
def k0_dev54 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_412 : BitVec 32 := 23#32
  let v500 : BitVec 32 := Scalar.addi v2 c23_i32_412
  let c32_i32_413 : BitVec 32 := 32#32
  let v501 : BitVec 32 := Scalar.remsi v500 c32_i32_413
  let c1_i32_418 : BitVec 32 := 1#32
  let v503 : BitVec 32 := Scalar.muli v501 c1_i32_418
  let v504 : BitVec 32 := Scalar.addi c0_i32_419 v503
  v504.toNat
def k0_dev55 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_423 : BitVec 32 := 24#32
  let v512 : BitVec 32 := Scalar.addi v2 c24_i32_423
  let c32_i32_424 : BitVec 32 := 32#32
  let v513 : BitVec 32 := Scalar.remsi v512 c32_i32_424
  let c1_i32_429 : BitVec 32 := 1#32
  let v515 : BitVec 32 := Scalar.muli v513 c1_i32_429
  let v516 : BitVec 32 := Scalar.addi c0_i32_430 v515
  v516.toNat
def k0_dev56 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_434 : BitVec 32 := 25#32
  let v524 : BitVec 32 := Scalar.addi v2 c25_i32_434
  let c32_i32_435 : BitVec 32 := 32#32
  let v525 : BitVec 32 := Scalar.remsi v524 c32_i32_435
  let c1_i32_440 : BitVec 32 := 1#32
  let v527 : BitVec 32 := Scalar.muli v525 c1_i32_440
  let v528 : BitVec 32 := Scalar.addi c0_i32_441 v527
  v528.toNat
def k0_dev57 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_445 : BitVec 32 := 26#32
  let v536 : BitVec 32 := Scalar.addi v2 c26_i32_445
  let c32_i32_446 : BitVec 32 := 32#32
  let v537 : BitVec 32 := Scalar.remsi v536 c32_i32_446
  let c1_i32_451 : BitVec 32 := 1#32
  let v539 : BitVec 32 := Scalar.muli v537 c1_i32_451
  let v540 : BitVec 32 := Scalar.addi c0_i32_452 v539
  v540.toNat
def k0_dev58 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_456 : BitVec 32 := 27#32
  let v548 : BitVec 32 := Scalar.addi v2 c27_i32_456
  let c32_i32_457 : BitVec 32 := 32#32
  let v549 : BitVec 32 := Scalar.remsi v548 c32_i32_457
  let c1_i32_462 : BitVec 32 := 1#32
  let v551 : BitVec 32 := Scalar.muli v549 c1_i32_462
  let v552 : BitVec 32 := Scalar.addi c0_i32_463 v551
  v552.toNat
def k0_dev59 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_467 : BitVec 32 := 28#32
  let v560 : BitVec 32 := Scalar.addi v2 c28_i32_467
  let c32_i32_468 : BitVec 32 := 32#32
  let v561 : BitVec 32 := Scalar.remsi v560 c32_i32_468
  let c1_i32_473 : BitVec 32 := 1#32
  let v563 : BitVec 32 := Scalar.muli v561 c1_i32_473
  let v564 : BitVec 32 := Scalar.addi c0_i32_474 v563
  v564.toNat
def k0_dev60 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_478 : BitVec 32 := 29#32
  let v572 : BitVec 32 := Scalar.addi v2 c29_i32_478
  let c32_i32_479 : BitVec 32 := 32#32
  let v573 : BitVec 32 := Scalar.remsi v572 c32_i32_479
  let c1_i32_484 : BitVec 32 := 1#32
  let v575 : BitVec 32 := Scalar.muli v573 c1_i32_484
  let v576 : BitVec 32 := Scalar.addi c0_i32_485 v575
  v576.toNat
def k0_dev61 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_489 : BitVec 32 := 30#32
  let v584 : BitVec 32 := Scalar.addi v2 c30_i32_489
  let c32_i32_490 : BitVec 32 := 32#32
  let v585 : BitVec 32 := Scalar.remsi v584 c32_i32_490
  let c1_i32_495 : BitVec 32 := 1#32
  let v587 : BitVec 32 := Scalar.muli v585 c1_i32_495
  let v588 : BitVec 32 := Scalar.addi c0_i32_496 v587
  v588.toNat
def k0_dev62 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_500 : BitVec 32 := 31#32
  let v596 : BitVec 32 := Scalar.addi v2 c31_i32_500
  let c32_i32_501 : BitVec 32 := 32#32
  let v597 : BitVec 32 := Scalar.remsi v596 c32_i32_501
  let c1_i32_506 : BitVec 32 := 1#32
  let v599 : BitVec 32 := Scalar.muli v597 c1_i32_506
  let v600 : BitVec 32 := Scalar.addi c0_i32_507 v599
  v600.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_511 : BitVec 32 := 32#32
  let v608 : BitVec 32 := Scalar.muli v2 c32_i32_511
  let v609 : Index := Scalar.indexCast v608
  let c0_512 : Index := 0#32
  ![v609.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x128 : Shape := ⟨2, ![256, 128]⟩
abbrev S1024x2 : Shape := ⟨2, ![1024, 2]⟩
abbrev S128x256x512 : Shape := ⟨3, ![128, 256, 512]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x256x512 : Shape := ⟨3, ![1024, 256, 512]⟩
abbrev S1024x512 : Shape := ⟨2, ![1024, 512]⟩

abbrev nBuf : Space → Nat
  | .hbm => 87
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x128, .f32⟩
  | .hbm, ⟨2, _⟩ => ⟨S1024x2, .i32⟩
  | .hbm, ⟨3, _⟩ => ⟨S128x256x512, .f32⟩
  | .hbm, ⟨4, _⟩ => ⟨S1024x128, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x128, .f32⟩
  | .hbm, ⟨15, _⟩ => ⟨S1024x128, .f32⟩
  | .hbm, ⟨16, _⟩ => ⟨S1024x1, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x1, .i32⟩
  | .hbm, ⟨37, _⟩ => ⟨S1024x2, .i32⟩
  | .hbm, ⟨38, _⟩ => ⟨S1024, .f32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S1024x1, .i32⟩
  | .hbm, ⟨55, _⟩ => ⟨S1024x2, .i32⟩
  | .hbm, ⟨56, _⟩ => ⟨S1024, .f32⟩
  | .hbm, ⟨57, _⟩ => ⟨S1024, .f32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S1024x256x512, .f32⟩
  | .hbm, ⟨67, _⟩ => ⟨S1024x512, .f32⟩
  | .hbm, ⟨68, _⟩ => ⟨S_, .i32⟩
  | .hbm, ⟨69, _⟩ => ⟨S1024, .i32⟩
  | .hbm, ⟨70, _⟩ => ⟨S1024, .i1⟩
  | .hbm, ⟨71, _⟩ => ⟨S_, .i32⟩
  | .hbm, ⟨72, _⟩ => ⟨S1024, .i32⟩
  | .hbm, ⟨73, _⟩ => ⟨S1024, .i32⟩
  | .hbm, ⟨74, _⟩ => ⟨S1024, .i32⟩
  | .hbm, ⟨75, _⟩ => ⟨S1024x1, .i32⟩
  | .hbm, ⟨76, _⟩ => ⟨S1024x256x512, .f32⟩
  | .hbm, ⟨77, _⟩ => ⟨S1024x512, .f32⟩
  | .hbm, ⟨78, _⟩ => ⟨S1024, .f32⟩
  | .hbm, ⟨79, _⟩ => ⟨S1024x1, .f32⟩
  | .hbm, ⟨80, _⟩ => ⟨S1024x512, .f32⟩
  | .hbm, ⟨81, _⟩ => ⟨S1024x512, .f32⟩
  | .hbm, ⟨82, _⟩ => ⟨S1024, .f32⟩
  | .hbm, ⟨83, _⟩ => ⟨S1024x1, .f32⟩
  | .hbm, ⟨84, _⟩ => ⟨S1024x512, .f32⟩
  | .hbm, ⟨85, _⟩ => ⟨S1024x512, .f32⟩
  | .hbm, ⟨86, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Loop.lean ====
/-
The kernel's body as loops.

The body signals its 31 peers, waits for its own 31 signals, starts 31 copies, keeps its own block, waits for the 31
copies it sent and the 31 it receives, and adds up. Here each of these runs is one step of a loop over the step `i`
(offset `i + 1` around the mesh), and the printed body is shown to be those loops.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.MoE

open Cert.KernelIdeal Cert.KernelIdeal.Gen

open Idealize.ShloMosaic
open Idealize.ShloMosaic.TcCoe
open Idealize.SL Idealize.SL.Sem

variable {F : FTy → Type} [FloatOps F]

/-! ## The peers -/

/-- The device `i + 1` places after `c`. -/
def tgt (i : Fin 31) (c : Dev nD) : Dev nD := ⟨(c.val + (i.val + 1)) % 32, Nat.mod_lt _ (by decide)⟩

/-- The device the printed `i`-th signal names. -/
def sigDev (i : Fin 31) (c : Dev nD) : Dev nD :=
  (![⟨k0_dev1 c, k0_dev1_lt c⟩, ⟨k0_dev2 c, k0_dev2_lt c⟩, ⟨k0_dev3 c, k0_dev3_lt c⟩, ⟨k0_dev4 c, k0_dev4_lt c⟩,
   ⟨k0_dev5 c, k0_dev5_lt c⟩, ⟨k0_dev6 c, k0_dev6_lt c⟩, ⟨k0_dev7 c, k0_dev7_lt c⟩, ⟨k0_dev8 c, k0_dev8_lt c⟩,
   ⟨k0_dev9 c, k0_dev9_lt c⟩, ⟨k0_dev10 c, k0_dev10_lt c⟩, ⟨k0_dev11 c, k0_dev11_lt c⟩, ⟨k0_dev12 c, k0_dev12_lt c⟩,
   ⟨k0_dev13 c, k0_dev13_lt c⟩, ⟨k0_dev14 c, k0_dev14_lt c⟩, ⟨k0_dev15 c, k0_dev15_lt c⟩, ⟨k0_dev16 c, k0_dev16_lt c⟩,
   ⟨k0_dev17 c, k0_dev17_lt c⟩, ⟨k0_dev18 c, k0_dev18_lt c⟩, ⟨k0_dev19 c, k0_dev19_lt c⟩, ⟨k0_dev20 c, k0_dev20_lt c⟩,
   ⟨k0_dev21 c, k0_dev21_lt c⟩, ⟨k0_dev22 c, k0_dev22_lt c⟩, ⟨k0_dev23 c, k0_dev23_lt c⟩, ⟨k0_dev24 c, k0_dev24_lt c⟩,
   ⟨k0_dev25 c, k0_dev25_lt c⟩, ⟨k0_dev26 c, k0_dev26_lt c⟩, ⟨k0_dev27 c, k0_dev27_lt c⟩, ⟨k0_dev28 c, k0_dev28_lt c⟩,
   ⟨k0_dev29 c, k0_dev29_lt c⟩, ⟨k0_dev30 c, k0_dev30_lt c⟩, ⟨k0_dev31 c, k0_dev31_lt c⟩] : Fin 31 → Dev nD) i

/-- The device the printed `i`-th copy names. -/
def cpyDev (i : Fin 31) (c : Dev nD) : Dev nD :=
  (![⟨k0_dev32 c, k0_dev32_lt c⟩, ⟨k0_dev33 c, k0_dev33_lt c⟩, ⟨k0_dev34 c, k0_dev34_lt c⟩, ⟨k0_dev35 c, k0_dev35_lt c⟩,
   ⟨k0_dev36 c, k0_dev36_lt c⟩, ⟨k0_dev37 c, k0_dev37_lt c⟩, ⟨k0_dev38 c, k0_dev38_lt c⟩, ⟨k0_dev39 c, k0_dev39_lt c⟩,
   ⟨k0_dev40 c, k0_dev40_lt c⟩, ⟨k0_dev41 c, k0_dev41_lt c⟩, ⟨k0_dev42 c, k0_dev42_lt c⟩, ⟨k0_dev43 c, k0_dev43_lt c⟩,
   ⟨k0_dev44 c, k0_dev44_lt c⟩, ⟨k0_dev45 c, k0_dev45_lt c⟩, ⟨k0_dev46 c, k0_dev46_lt c⟩, ⟨k0_dev47 c, k0_dev47_lt c⟩,
   ⟨k0_dev48 c, k0_dev48_lt c⟩, ⟨k0_dev49 c, k0_dev49_lt c⟩, ⟨k0_dev50 c, k0_dev50_lt c⟩, ⟨k0_dev51 c, k0_dev51_lt c⟩,
   ⟨k0_dev52 c, k0_dev52_lt c⟩, ⟨k0_dev53 c, k0_dev53_lt c⟩, ⟨k0_dev54 c, k0_dev54_lt c⟩, ⟨k0_dev55 c, k0_dev55_lt c⟩,
   ⟨k0_dev56 c, k0_dev56_lt c⟩, ⟨k0_dev57 c, k0_dev57_lt c⟩, ⟨k0_dev58 c, k0_dev58_lt c⟩, ⟨k0_dev59 c, k0_dev59_lt c⟩,
   ⟨k0_dev60 c, k0_dev60_lt c⟩, ⟨k0_dev61 c, k0_dev61_lt c⟩, ⟨k0_dev62 c, k0_dev62_lt c⟩] : Fin 31 → Dev nD) i

theorem sigDev_eq (i : Fin 31) (c : Dev nD) : sigDev i c = tgt i c := by revert i c; decide +kernel
theorem cpyDev_eq (i : Fin 31) (c : Dev nD) : cpyDev i c = tgt i c := by revert i c; decide +kernel

theorem tgt_rev (i : Fin 31) (c : Dev nD) : tgt i.rev (tgt i c) = c := by revert i c; decide +kernel
theorem tgt_rev' (i : Fin 31) (c : Dev nD) : tgt i (tgt i.rev c) = c := by revert i c; decide +kernel
theorem tgt_ne (i : Fin 31) (c : Dev nD) : tgt i c ≠ c := by revert i c; decide +kernel

/-- Going `i + 1` places on is a permutation of the mesh. -/
def around (i : Fin 31) : Dev nD ≃ Dev nD := ⟨tgt i, tgt i.rev, tgt_rev i, tgt_rev' i⟩

/-! ## The memrefs -/

abbrev xM : Memref sig .tc .vmem S1024x256 .f32 := Memref.whole cc0_stg0_0
abbrev wM : Memref sig .tc .vmem S256x128 .f32 := Memref.whole cc0_stg1_0
abbrev iM : Memref sig .tc .vmem S1024x2 .i32 := Memref.whole cc0_stg2_0
abbrev eM : Memref sig .tc .vmem S4x256x512 .f32 := Memref.whole cc0_stg3_0
abbrev oM : Memref sig .tc .vmem S32x512 .f32 := Memref.whole cc0_stg4_0
abbrev pM : Memref sig .tc .vmem S1024x512 .f32 := Memref.whole cc0_scratch0
abbrev mM : Memref sig .tc .vmem S32x32x512 .f32 := Memref.whole cc0_scratch1

theorem slot_inb (i : Fin 31) : ∀ a, (![1 + i.val, 0, 0] : Fin 3 → Nat) a + S1x32x512.size a ≤ S32x32x512.size a := by
  revert i; decide
theorem sem_inb (i : Fin 31) : ∀ a, (![1 + i.val] : Fin 1 → Nat) a + S1.size a ≤ S32.size a := by
  revert i; decide

/-- Slot `i + 1` of the landing buffer. -/
def slotM (i : Fin 31) : Memref sig .tc .vmem S32x512 .f32 :=
  (mM.slice (Rect.unit (s := S32x32x512) ![1 + i.val, 0, 0] S1x32x512.size (slot_inb i)) (fun _ => rfl)).squeeze S32x512 squeezes_S1x32x512_S32x512
/-- The rows of the partial product that go to the device `i + 1` places on. -/
def rowsM (c : Dev nD) (i : Fin 31) : Memref sig .tc .vmem S32x512 .f32 :=
  pM.slice (Rect.unit (s := S1024x512) (k0_off1 c (BitVec.ofNat 32 (1 + i.val))) S32x512.size (k0_off1_inb c i)) (fun _ => rfl)
/-- The semaphore copy `i` is credited on at its sender, -/
def sendS (i : Fin 31) : DmaSem sig := ((cc0_scratch2.slice (Rect.unit (s := S32) ![1 + i.val] S1.size (sem_inb i))).squeeze S_ squeezes_S1_S_).sem
/-- and at its receiver. -/
def recvS (i : Fin 31) : DmaSem sig := ((cc0_scratch3.slice (Rect.unit (s := S32) ![1 + i.val] S1.size (sem_inb i))).squeeze S_ squeezes_S1_S_).sem
/-- The barrier semaphore. -/
abbrev barS : Sem sig := (SemArray.scalar (sig.barrier 0 rfl) : Sems sig S_).sem

/-! ## The loops -/

/-- The steps in order. -/
def steps : List (Fin 31) := [0, 1, 2, 3, 4, 5, 6, 7, 8, 9, 10, 11, 12, 13, 14, 15, 16, 17, 18, 19, 20, 21, 22, 23, 24, 25, 26, 27, 28, 29, 30]

theorem steps_nodup : steps.Nodup := by decide
theorem mem_steps (i : Fin 31) : i ∈ steps := by revert i; decide

/-- `p` at each step of the list, then `k`. -/
def loop {α : Type} (p : Fin 31 → Prog (TpuEff nD τ sig (Elt F) Λ₀ .tc) PUnit) :
    List (Fin 31) → Prog (TpuEff nD τ sig (Elt F) Λ₀ .tc) α → Prog (TpuEff nD τ sig (Elt F) Λ₀ .tc) α
  | [], k => k
  | i :: l, k => (p i).bind fun _ => loop p l k

/-- Signal the device `i + 1` places on. -/
def sigStep (c : Dev nD) (i : Fin 31) : Prog (TpuEff nD τ sig (Elt F) Λ₀ .tc) PUnit :=
  semSignalWord (sigDev i c) barS 1#32
/-- Start the copy of the rows of the device `i + 1` places on into its slot `i + 1`. -/
def cpyStep (c : Dev nD) (i : Fin 31) : Prog (TpuEff nD τ sig (Elt F) Λ₀ .tc) PUnit :=
  Prog.lift (.enqueueDma (rowsM c i) (.remote (Dev.tc (cpyDev i c)) (slotM i) (.dma (sendS i))) (.dma (recvS i))
    (View.wordExact_bits rfl) ((View.wordExact_bits rfl).reshape _ _) ⟨⟨rfl, Or.inl rfl⟩, trivial⟩)
/-- Wait for copy `i` to have left, and for the copy into slot `i + 1` to have landed. -/
def waitStep (c : Dev nD) (i : Fin 31) : Prog (TpuEff nD τ sig (Elt F) Λ₀ .tc) PUnit := do
  Prog.lift (.waitDma2 (sendS i) (slotM i) (rowsM c i) ((View.wordExact_bits rfl).reshape _ _) (View.wordExact_bits rfl))
  Prog.lift (.waitDma2 (recvS i) (rowsM c i) (slotM i) (View.wordExact_bits rfl) ((View.wordExact_bits rfl).reshape _ _))

/-! ## The payloads -/

/-- The device's place in the mesh as the body computes it. -/
abbrev posW (c : Dev nD) : BitVec 32 := Scalar.remsi (Scalar.divsi (Dev.word c) 1#32) 32#32

/-- The partial product device `c` stores, from the eight blocks it loads: tokens, router weights, the two columns of
    routes, and its four experts' weights. -/
def accOf (c : Dev nD) (v3 : Vec F S1024x256 .f32) (v5 : Vec F S256x128 .f32) (v17 v19 : Vec F S1024x1 .i32)
    (v50 v68 v86 v104 : Vec F S1x256x512 .f32) : FVec F S1024x512 .f32 :=
  k0_pay15 (posW c) (k0_pay2 v3) (k0_pay4 (F := F) v17) (k0_pay5 (F := F) v19) (k0_pay6 v3 v5 v17) (k0_pay7 v3 v5 v19) (k0_pay8 v3 v5 v17 v19)
    (k0_pay11 (posW c) (k0_pay2 v3) (k0_pay4 (F := F) v17) (k0_pay5 (F := F) v19) (k0_pay6 v3 v5 v17) (k0_pay7 v3 v5 v19) (k0_pay8 v3 v5 v17 v19)
      (k0_pay9 (F := F)) (Scalar.addi (Scalar.muli (posW c) 4#32) 0#32) (k0_pay10 c) v50 v68)
    (k0_pay12 (posW c) (k0_pay4 (F := F) v17) (k0_pay6 v3 v5 v17)) (k0_pay13 (posW c) (k0_pay5 (F := F) v19)) (k0_pay14 (F := F)) v86 v104

/-! ## The body as loops -/

/-- After the partial product is stored: the handshake, the copies, the own block, the waits, the sum. -/
def tailP (c : Dev nD) : Prog (TpuEff nD τ sig (Elt F) Λ₀ .tc) PUnit :=
  loop (sigStep c) steps <| .bind (semWaitWord barS 31#32) fun _ =>
  loop (cpyStep c) steps <|
  .bind (Prog.lift (.load pM (Rect.unit (s := S1024x512) (k0_off2 c) S32x512.size (k0_off2_inb c)).toLoadRect (View.loadsAt_vmem h_S32x512))) fun (v610 : Vec F S32x512 .f32) =>
  .bind (Prog.lift (.load mM (Rect.unit (s := S32x32x512) ![0, 0, 0] S1x32x512.size inb_S32x32x512_S1x32x512_0_0_0).toLoadRect (View.loadsAt_vmem h_S1x32x512))) fun (_ : Vec F S1x32x512 .f32) =>
  .bind (Prog.lift (.store mM (Rect.unit (s := S32x32x512) ![0, 0, 0] S1x32x512.size inb_S32x32x512_S1x32x512_0_0_0) (k0_pay16 v610) Finset.univ (View.stores_vmem_bits_univ h_S1x32x512 rfl) (.inl rfl))) fun _ =>
  loop (waitStep c) steps <|
  .bind (Prog.lift (.load mM (Rect.unit (s := S32x32x512) ![0, 0, 0] S32x32x512.size inb_S32x32x512_S32x32x512_0_0_0).toLoadRect (View.loadsAt_vmem h_S32x32x512))) fun (v986 : Vec F S32x32x512 .f32) =>
  .bind (Prog.lift (.load oM (Rect.unit (s := S32x512) ![0, 0] S32x512.size inb_S32x512_S32x512_0_0).toLoadRect (View.loadsAt_vmem h_S32x512))) fun (_ : Vec F S32x512 .f32) =>
  Prog.lift (.store oM (Rect.unit (s := S32x512) ![0, 0] S32x512.size inb_S32x512_S32x512_0_0) (k0_pay1 v986) Finset.univ (View.stores_vmem_bits_univ h_S32x512 rfl) (.inl rfl))

/-- The whole body. -/
def bodyP : Prog (TpuEff nD τ sig (Elt F) Λ₀ .tc) PUnit :=
  .bind (Prog.lift .deviceId) fun (c : Dev nD) =>
  .bind (Prog.lift (.load xM (Rect.unit (s := S1024x256) ![0, 0] S1024x256.size inb_S1024x256_S1024x256_0_0).toLoadRect (View.loadsAt_vmem h_S1024x256))) fun (v3 : Vec F S1024x256 .f32) =>
  .bind (Prog.lift (.load wM (Rect.unit (s := S256x128) ![0, 0] S256x128.size inb_S256x128_S256x128_0_0).toLoadRect (View.loadsAt_vmem h_S256x128))) fun (v5 : Vec F S256x128 .f32) =>
  .bind (Prog.lift (.load iM (Rect.unit (s := S1024x2) ![0, 0] S1024x1.size inb_S1024x2_S1024x1_0_0).toLoadRect (View.loadsAt_vmem h_S1024x1))) fun (v17 : Vec F S1024x1 .i32) =>
  .bind (Prog.lift (.load iM (Rect.unit (s := S1024x2) ![0, 1] S1024x1.size inb_S1024x2_S1024x1_0_1).toLoadRect (View.loadsAt_vmem h_S1024x1))) fun (v19 : Vec F S1024x1 .i32) =>
  .bind (Prog.lift (.load eM (Rect.unit (s := S4x256x512) ![0, 0, 0] S1x256x512.size inb_S4x256x512_S1x256x512_0_0_0).toLoadRect (View.loadsAt_vmem h_S1x256x512))) fun (v50 : Vec F S1x256x512 .f32) =>
  .bind (Prog.lift (.load eM (Rect.unit (s := S4x256x512) ![1, 0, 0] S1x256x512.size inb_S4x256x512_S1x256x512_1_0_0).toLoadRect (View.loadsAt_vmem h_S1x256x512))) fun (v68 : Vec F S1x256x512 .f32) =>
  .bind (Prog.lift (.load eM (Rect.unit (s := S4x256x512) ![2, 0, 0] S1x256x512.size inb_S4x256x512_S1x256x512_2_0_0).toLoadRect (View.loadsAt_vmem h_S1x256x512))) fun (v86 : Vec F S1x256x512 .f32) =>
  .bind (Prog.lift (.load eM (Rect.unit (s := S4x256x512) ![3, 0, 0] S1x256x512.size inb_S4x256x512_S1x256x512_3_0_0).toLoadRect (View.loadsAt_vmem h_S1x256x512))) fun (v104 : Vec F S1x256x512 .f32) =>
  .bind (Prog.lift (.load pM (Rect.unit (s := S1024x512) ![0, 0] S1024x512.size inb_S1024x512_S1024x512_0_0).toLoadRect (View.loadsAt_vmem h_S1024x512))) fun (_ : Vec F S1024x512 .f32) =>
  .bind (Prog.lift (.store pM (Rect.unit (s := S1024x512) ![0, 0] S1024x512.size inb_S1024x512_S1024x512_0_0) (accOf c v3 v5 v17 v19 v50 v68 v86 v104) Finset.univ (View.stores_vmem_bits_univ h_S1024x512 rfl) (.inl rfl))) fun _ =>
  tailP c

set_option maxRecDepth 65536 in
/-- The printed body is the loops. -/
theorem body_eq : cc0_body (F := F) xM (Memref.isWhole_whole _) wM (Memref.isWhole_whole _) iM (Memref.isWhole_whole _) eM (Memref.isWhole_whole _)
    oM (Memref.isWhole_whole _) pM (Memref.isWhole_whole _) mM (Memref.isWhole_whole _) cc0_scratch2 cc0_scratch3 = bodyP := by
  rfl

end Cert.MoE

end
-- ==== Proof.Views.lean ====
/-
Contents and places: what each device computes and holds, which elements each copied block covers, and what a copy leaves
where it lands.
-/
module

public import proofs.«01_k».proof.Proof.Loop
public import Idealize.ShloMosaic.Lib.ValueLayout
public import Idealize.ShloMosaic.Lib.ValueIdxCore
public import Idealize.ShloMosaic.Lib.ValueIdxCoords

@[expose] public section

noncomputable section

namespace Cert.MoE

open Cert.KernelIdeal Cert.KernelIdeal.Gen

open Idealize.ShloMosaic
open Idealize.ShloMosaic.TcCoe
open Idealize.ShloMosaic.ValueIdx
open Idealize.SL Idealize.SL.Sem

variable {F : FTy → Type} [FloatOps F]

/-! ## Offsets -/

theorem off1_eq (c : Dev nD) (i : Fin 31) : k0_off1 c (BitVec.ofNat 32 (1 + i.val)) = ![32 * (tgt i c).val, 0] := by
  revert c i; decide +kernel
theorem off2_eq (c : Dev nD) : k0_off2 c = ![32 * c.val, 0] := by revert c; decide +kernel

/-- The device `e` places before `t`. -/
def back (e : Fin 32) (t : Dev nD) : Dev nD := ⟨(t.val + (32 - e.val)) % 32, Nat.mod_lt _ (by decide)⟩

theorem back_zero (t : Dev nD) : back 0 t = t := by revert t; decide +kernel
theorem back_tgt (i : Fin 31) (s : Dev nD) : back ⟨1 + i.val, by omega⟩ (tgt i s) = s := by revert i s; decide +kernel

/-! ## Elements covered -/

theorem mem_rows (c : Dev nD) (i : Fin 31) (x : S1024x512.Idx) : x ∈ (rowsM c i).view.set ↔ (x 0).val / 32 = (tgt i c).val := by
  have e : (rowsM c i).view.set = (Rect.unit (s := S1024x512) (k0_off1 c (BitVec.ofNat 32 (1 + i.val))) S32x512.size (k0_off1_inb c i)).set :=
    View.set_slice_whole cc0_scratch0 _
  refine (iff_of_eq (congrArg (x ∈ ·) e)).trans ?_
  refine Rect.mem_set_unit.trans ?_
  rw [Fin.forall_fin_two]
  have h := congrFun (off1_eq c i) 0
  have h1 := congrFun (off1_eq c i) 1
  rw [h, h1]
  have hx := (x 1).isLt
  simp only [Matrix.cons_val_zero, Matrix.cons_val_one] at *
  change (x 1).val < 512 at hx
  change ((32 * (tgt i c).val ≤ (x 0).val ∧ (x 0).val < 32 * (tgt i c).val + 32) ∧ (0 ≤ (x 1).val ∧ (x 1).val < 0 + 512)) ↔ _
  omega

abbrev ownR (c : Dev nD) : Rect S1024x512 := Rect.unit (s := S1024x512) (k0_off2 c) S32x512.size (k0_off2_inb c)
abbrev slot0R : Rect S32x32x512 := Rect.unit (s := S32x32x512) ![0, 0, 0] S1x32x512.size inb_S32x32x512_S1x32x512_0_0_0

theorem mem_own (c : Dev nD) (x : S1024x512.Idx) : x ∈ (ownR c).set ↔ (x 0).val / 32 = c.val := by
  rw [Rect.mem_set_unit, Fin.forall_fin_two]
  have h := congrFun (off2_eq c) 0
  have h1 := congrFun (off2_eq c) 1
  rw [h, h1]
  have hx := (x 1).isLt
  change (x 1).val < 512 at hx
  change ((32 * c.val ≤ (x 0).val ∧ (x 0).val < 32 * c.val + 32) ∧ (0 ≤ (x 1).val ∧ (x 1).val < 0 + 512)) ↔ _
  omega

theorem mem_slot (i : Fin 31) (x : S32x32x512.Idx) : x ∈ (slotM i).view.set ↔ (x 0).val = 1 + i.val := by
  have e : (slotM i).view.set = (Rect.unit (s := S32x32x512) ![1 + i.val, 0, 0] S1x32x512.size (slot_inb i)).set := by
    refine (View.set_reshape _ _).trans ?_
    exact View.set_slice_whole cc0_scratch1 _
  refine (iff_of_eq (congrArg (x ∈ ·) e)).trans (Rect.mem_set_unit.trans ?_)
  have h1 : (x 1).val < 32 := (x 1).isLt
  have h2 : (x 2).val < 512 := (x 2).isLt
  constructor
  · intro h
    have := h 0
    change 1 + i.val ≤ (x 0).val ∧ (x 0).val < 1 + i.val + 1 at this
    omega
  · intro h a
    fin_cases a
    · change 1 + i.val ≤ (x 0).val ∧ (x 0).val < 1 + i.val + 1; omega
    · change 0 ≤ (x 1).val ∧ (x 1).val < 0 + 32; omega
    · change 0 ≤ (x 2).val ∧ (x 2).val < 0 + 512; omega

theorem mem_slot0 (x : S32x32x512.Idx) : x ∈ slot0R.set ↔ (x 0).val = 0 := by
  rw [Rect.mem_set_unit]
  have h1 : (x 1).val < 32 := (x 1).isLt
  have h2 : (x 2).val < 512 := (x 2).isLt
  constructor
  · intro h
    have := h 0
    change 0 ≤ (x 0).val ∧ (x 0).val < 0 + 1 at this
    omega
  · intro h a
    fin_cases a
    · change 0 ≤ (x 0).val ∧ (x 0).val < 0 + 1; omega
    · change 0 ≤ (x 1).val ∧ (x 1).val < 0 + 32; omega
    · change 0 ≤ (x 2).val ∧ (x 2).val < 0 + 512; omega

/-- The blocks of the partial product: the device's own (`none`) and those it sends. -/
def rowsSet (c : Dev nD) : Option (Fin 31) → Finset S1024x512.Idx
  | none => (ownR c).set
  | some i => (rowsM c i).view.set
/-- The slots of the landing buffer: its own (`none`) and those it receives into. -/
def slotSet : Option (Fin 31) → Finset S32x32x512.Idx
  | none => slot0R.set
  | some i => (slotM i).view.set

/-- The block a row block goes with: the owner, as a device number. -/
def rowsOf (c : Dev nD) : Option (Fin 31) → Dev nD
  | none => c
  | some i => tgt i c
def slotOf : Option (Fin 31) → Fin 32
  | none => 0
  | some i => ⟨1 + i.val, by omega⟩

theorem rowsOf_inj (c : Dev nD) : Function.Injective (rowsOf c) := by
  intro a b; revert c a b; decide +kernel
theorem rowsOf_surj (c : Dev nD) (b : Dev nD) : ∃ o, rowsOf c o = b := by revert c b; decide +kernel
theorem slotOf_inj : Function.Injective slotOf := by
  intro a b; revert a b; decide +kernel
theorem slotOf_surj (b : Fin 32) : ∃ o, slotOf o = b := by revert b; decide +kernel

theorem mem_rowsSet (c : Dev nD) (o) (x : S1024x512.Idx) : x ∈ rowsSet c o ↔ (x 0).val / 32 = (rowsOf c o).val := by
  cases o with
  | none => exact mem_own c x
  | some i => exact mem_rows c i x
theorem mem_slotSet (o) (x : S32x32x512.Idx) : x ∈ slotSet o ↔ (x 0).val = (slotOf o).val := by
  cases o with
  | none => exact mem_slot0 x
  | some i => exact mem_slot i x

theorem rowsSet_disj (c : Dev nD) (a b) (h : a ≠ b) : Disjoint (rowsSet c a) (rowsSet c b) :=
  Finset.disjoint_left.mpr fun x ha hb => h (rowsOf_inj c (Fin.ext (((mem_rowsSet c a x).mp ha).symm.trans ((mem_rowsSet c b x).mp hb))))
theorem slotSet_disj (a b) (h : a ≠ b) : Disjoint (slotSet a) (slotSet b) :=
  Finset.disjoint_left.mpr fun x ha hb => h (slotOf_inj (Fin.ext (((mem_slotSet a x).mp ha).symm.trans ((mem_slotSet b x).mp hb))))

theorem rowsSet_cover (c : Dev nD) : Finset.univ.biUnion (rowsSet c) = Finset.univ :=
  Finset.eq_univ_iff_forall.mpr fun x => by
    have hx : (x 0).val < 1024 := (x 0).isLt
    obtain ⟨o, ho⟩ := rowsOf_surj c ⟨(x 0).val / 32, by change _ < 32; omega⟩
    exact Finset.mem_biUnion.mpr ⟨o, Finset.mem_univ _, (mem_rowsSet c o x).mpr (by rw [ho])⟩
theorem slotSet_cover : Finset.univ.biUnion slotSet = Finset.univ :=
  Finset.eq_univ_iff_forall.mpr fun x => by
    have hx : (x 0).val < 32 := (x 0).isLt
    obtain ⟨o, ho⟩ := slotOf_surj ⟨(x 0).val, hx⟩
    exact Finset.mem_biUnion.mpr ⟨o, Finset.mem_univ _, (mem_slotSet o x).mpr (by rw [ho])⟩

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The four staged operands of device `c`. -/
def xStg (c : Dev nD) : (cc0_stg0_0 : Ref sig .tc).ty.Contents (Elt F) :=
  (win0_0.blk (0 : Fin 1)).view.read (Elt F) ((s₀ m ρ).mem ((c : Thread nD τ).loc main_arg0))
def wStg (c : Dev nD) : (cc0_stg1_0 : Ref sig .tc).ty.Contents (Elt F) :=
  (win0_1.blk (0 : Fin 1)).view.read (Elt F) ((s₀ m ρ).mem ((c : Thread nD τ).loc main_arg1))
def iStg (c : Dev nD) : (cc0_stg2_0 : Ref sig .tc).ty.Contents (Elt F) :=
  (win0_2.blk (0 : Fin 1)).view.read (Elt F) ((s₀ m ρ).mem ((c : Thread nD τ).loc main_arg2))
def eStg (c : Dev nD) : (cc0_stg3_0 : Ref sig .tc).ty.Contents (Elt F) :=
  (win0_3.blk (0 : Fin 1)).view.read (Elt F) ((s₀ m ρ).mem ((c : Thread nD τ).loc main_arg3))

abbrev xR : Rect S1024x256 := Rect.unit (s := S1024x256) ![0, 0] S1024x256.size inb_S1024x256_S1024x256_0_0
abbrev wR : Rect S256x128 := Rect.unit (s := S256x128) ![0, 0] S256x128.size inb_S256x128_S256x128_0_0
abbrev i0R : Rect S1024x2 := Rect.unit (s := S1024x2) ![0, 0] S1024x1.size inb_S1024x2_S1024x1_0_0
abbrev i1R : Rect S1024x2 := Rect.unit (s := S1024x2) ![0, 1] S1024x1.size inb_S1024x2_S1024x1_0_1
abbrev e0R : Rect S4x256x512 := Rect.unit (s := S4x256x512) ![0, 0, 0] S1x256x512.size inb_S4x256x512_S1x256x512_0_0_0
abbrev e1R : Rect S4x256x512 := Rect.unit (s := S4x256x512) ![1, 0, 0] S1x256x512.size inb_S4x256x512_S1x256x512_1_0_0
abbrev e2R : Rect S4x256x512 := Rect.unit (s := S4x256x512) ![2, 0, 0] S1x256x512.size inb_S4x256x512_S1x256x512_2_0_0
abbrev e3R : Rect S4x256x512 := Rect.unit (s := S4x256x512) ![3, 0, 0] S1x256x512.size inb_S4x256x512_S1x256x512_3_0_0

/-- The partial product of device `c`: what its own four experts contribute to every token. -/
def part (c : Dev nD) : FVec F S1024x512 .f32 :=
  accOf c (xM.view.readAt (Elt F) xR.toLoadRect (xStg m ρ c)) (wM.view.readAt (Elt F) wR.toLoadRect (wStg m ρ c))
    (iM.view.readAt (Elt F) i0R.toLoadRect (iStg m ρ c)) (iM.view.readAt (Elt F) i1R.toLoadRect (iStg m ρ c))
    (eM.view.readAt (Elt F) e0R.toLoadRect (eStg m ρ c)) (eM.view.readAt (Elt F) e1R.toLoadRect (eStg m ρ c))
    (eM.view.readAt (Elt F) e2R.toLoadRect (eStg m ρ c)) (eM.view.readAt (Elt F) e3R.toLoadRect (eStg m ρ c))

/-- The landing buffer of device `t` when everything has arrived: slot `e` holds the rows of `t` in the partial product
    of the device `e` places before it. -/
def gathered (t : Dev nD) : (cc0_scratch1 : Ref sig .tc).ty.Contents (Elt F) := fun (x : S32x32x512.Idx) =>
  part m ρ (back (x 0) t) (ix2 (⟨32 * t.val + (x 1).val, by
    have h : (x 1).val < 32 := (x 1).isLt
    have h' : t.val < 32 := t.isLt
    omega⟩ : Fin 1024) (x 2))

/-- The result of device `c`. -/
def outC (c : Dev nD) : (cc0_stg4_0 : Ref sig .tc).ty.Contents (Elt F) := k0_pay1 (gathered m ρ c)

/-- The copy from `s` lands in slot `i + 1` of the device `i + 1` places on as that device's rows. -/
theorem landed_eq (s : Dev nD) (i : Fin 31) (f : (cc0_scratch1 : Ref sig .tc).ty.Contents (Elt F)) (x : S32x32x512.Idx)
    (hx : x ∈ (slotM i).view.set) :
    (slotM i).view.write (Elt F) f ((rowsM s i).view.read (Elt F) (part m ρ s)) Finset.univ x = gathered m ρ (tgt i s) x := by
  obtain ⟨j, -, rfl⟩ := Finset.mem_map.mp hx
  refine (View.write_emb_of_mem _ _ (Finset.mem_univ j)).trans ?_
  have hj : (slotM i).view.emb j = ix3 (⟨1 + i.val, by omega⟩ : Fin 32) (j 0) (j 1) := by
    show (Rect.unit (s := S32x32x512) ![1 + i.val, 0, 0] S1x32x512.size (slot_inb i)).emb (Shape.reshapeEquiv _ j) = _
    rw [eq_ix2 j]
    erw [reshapeEquiv_ix2_1ab]
    funext a
    fin_cases a <;> refine Fin.ext ?_
    · show 1 + i.val + 1 * 0 = 1 + i.val; omega
    · show 0 + 1 * (j 0).val = (j 0).val; omega
    · show 0 + 1 * (j 1).val = (j 1).val; omega
  have hr : (rowsM s i).view.emb j = ix2 (⟨32 * (tgt i s).val + (j 0).val, by
      have h : (j 0).val < 32 := (j 0).isLt
      have h' : (tgt i s).val < 32 := (tgt i s).isLt
      omega⟩ : Fin 1024) (j 1) := by
    show (Rect.unit (s := S1024x512) (k0_off1 s (BitVec.ofNat 32 (1 + i.val))) S32x512.size (k0_off1_inb s i)).emb j = _
    funext a
    fin_cases a <;> refine Fin.ext ?_
    · show k0_off1 s (BitVec.ofNat 32 (1 + i.val)) 0 + 1 * (j 0).val = 32 * (tgt i s).val + (j 0).val
      rw [off1_eq]; show 32 * (tgt i s).val + 1 * (j 0).val = _; omega
    · show k0_off1 s (BitVec.ofNat 32 (1 + i.val)) 1 + 1 * (j 1).val = (j 1).val
      rw [off1_eq]; show 0 + 1 * (j 1).val = _; omega
  show (rowsM s i).view.read (Elt F) (part m ρ s) j = gathered m ρ (tgt i s) ((slotM i).view.emb j)
  rw [hj]
  show part m ρ s ((rowsM s i).view.emb j) = part m ρ (back ⟨1 + i.val, by omega⟩ (tgt i s)) _
  rw [hr, back_tgt]
  rfl

/-- Dropping a leading axis of one element keeps the other two coordinates. -/
theorem drop_one {a b : ℕ} (h : (⟨3, ![1, a, b]⟩ : Shape).numel = (⟨2, ![a, b]⟩ : Shape).numel) (j : (⟨3, ![1, a, b]⟩ : Shape).Idx) :
    Shape.reshapeEquiv h j = ix2 (j 1) (j 2) := by
  have e : ix3 (⟨0, Nat.one_pos⟩ : Fin 1) (j 1) (j 2) = j := by
    funext d
    fin_cases d <;> refine Fin.ext ?_
    · have : (j 0).val < 1 := (j 0).isLt
      show 0 = (j 0).val
      omega
    · rfl
    · rfl
  have e' : Shape.reshapeEquiv h.symm (ix2 (j 1) (j 2)) = j := (reshapeEquiv_ix2_1ab h.symm (j 1) (j 2)).trans e
  refine (congrArg (Shape.reshapeEquiv h) e'.symm).trans ?_
  exact (Shape.reshapeEquiv_reshapeEquiv _ _ _).trans (Shape.reshapeEquiv_self _ _)

/-- The own block, kept in slot 0. -/
theorem kept_eq (c : Dev nD) (f : (cc0_scratch1 : Ref sig .tc).ty.Contents (Elt F)) (x : S32x32x512.Idx)
    (hx : x ∈ slot0R.set) :
    (mM.access slot0R : View sig .tc _ _ _).write (Elt F) f (k0_pay16 (pM.view.readAt (Elt F) (ownR c).toLoadRect (part m ρ c))) Finset.univ x = gathered m ρ c x := by
  have hx' : x ∈ (mM.access slot0R : View sig .tc _ _ _).set := by
    refine (iff_of_eq (congrArg (x ∈ ·) ?_)).mpr hx
    exact View.set_slice_whole cc0_scratch1 slot0R
  obtain ⟨j, -, rfl⟩ := Finset.mem_map.mp hx'
  refine (View.write_emb_of_mem (v := mM.access slot0R) _ _ (Finset.mem_univ j)).trans ?_
  have hj0 : (j 0).val = 0 := by have : (j 0).val < 1 := (j 0).isLt; omega
  have hj : slot0R.emb j = ix3 (0 : Fin 32) (j 1) (j 2) := by
    funext a
    fin_cases a <;> refine Fin.ext ?_
    · show 0 + 1 * (j 0).val = 0; omega
    · show 0 + 1 * (j 1).val = (j 1).val; omega
    · show 0 + 1 * (j 2).val = (j 2).val; omega
  have hr : (ownR c).emb (ix2 (j 1) (j 2)) = ix2 (⟨32 * c.val + (j 1).val, by
      have h : (j 1).val < 32 := (j 1).isLt
      have h' : c.val < 32 := c.isLt
      omega⟩ : Fin 1024) (j 2) := by
    funext a
    fin_cases a <;> refine Fin.ext ?_
    · show k0_off2 c 0 + 1 * (j 1).val = 32 * c.val + (j 1).val
      rw [off2_eq]; show 32 * c.val + 1 * (j 1).val = _; omega
    · show k0_off2 c 1 + 1 * (j 2).val = (j 2).val
      rw [off2_eq]; show 0 + 1 * (j 2).val = _; omega
  show k0_pay16 (pM.view.readAt (Elt F) (ownR c).toLoadRect (part m ρ c)) j = gathered m ρ c (slot0R.emb j)
  rw [hj]
  refine (congrArg (part m ρ c) ((congrArg (ownR c).emb (drop_one (a := 32) (b := 512) shapeCasts_S32x512_S1x32x512 j)).trans hr)).trans ?_
  show _ = part m ρ (back 0 c) _
  rw [back_zero]
  rfl

end Cert.MoE

end
-- ==== Proof.Sched.lean ====
/-
The schedule of the exchange.

Per device `c` and step `i` (the device `i + 1` places on is `tgt i c`):
* the barrier cell of `c` is raised once by every other device; the one that raises it at its step `i` hands over its
  own slot `i.rev + 1`, at any contents — the slot `c` writes at step `i.rev`;
* the receive cell `i` of `c` is raised by the copy of the device `i + 1` places before, which hands over slot `i + 1` at
  `gathered c`;
* the send cell `i` of `c` is raised by `c`'s own copy, which gives the copied rows back.
Each cell has one round. The barrier cells lie below the receive cells: at its barrier wait a device owes receive cells
only, and later it owes nothing.
-/
module

public import proofs.«01_k».proof.Proof.Views

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the exchange's, whose duties are the steps -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

abbrev barCell (c : Dev nD) : GSem nD τ sig := ((c : Thread nD τ), .reg barS)
abbrev sendCell (c : Dev nD) (i : Fin 31) : GSem nD τ sig := ((c : Thread nD τ), .dma (sendS i))
abbrev recvCell (c : Dev nD) (i : Fin 31) : GSem nD τ sig := ((c : Thread nD τ), .dma (recvS i))

/-- What a semaphore is for. -/
inductive CellKind where
  | bar | send (i : Fin 31) | recv (i : Fin 31) | idle
  deriving DecidableEq

def kindOf : SemLoc sig → CellKind
  | .reg s => if s = barS then .bar else .idle
  | .dma q =>
    if h : 6 ≤ q.val ∧ q.val < 37 then .send ⟨q.val - 6, by omega⟩
    else if h : 38 ≤ q.val ∧ q.val < 69 then .recv ⟨q.val - 38, by omega⟩
    else .idle

@[simp] theorem kind_bar : kindOf (.reg barS) = .bar := by decide
@[simp] theorem kind_send (i : Fin 31) : kindOf (.dma (sendS i)) = .send i := by revert i; decide +kernel
@[simp] theorem kind_recv (i : Fin 31) : kindOf (.dma (recvS i)) = .recv i := by revert i; decide +kernel

/-- The slots no copy uses. -/
abbrev idleS : Fin 2 → DmaSem sig := fun | 0 => ⟨5, by decide⟩ | 1 => ⟨37, by decide⟩
@[simp] theorem kind_idle (k : Fin 2) : kindOf (.dma (idleS k)) = .idle := by revert k; decide +kernel

/-- The kernel's own semaphores: the two unused slots, the send and the receive semaphores; -/
abbrev OK : Type := Fin 2 ⊕ (Fin 31 ⊕ Fin 31)
abbrev osem : OK → SemLoc sig := fun
  | .inl k => .dma (idleS k) | .inr (.inl i) => .dma (sendS i) | .inr (.inr i) => .dma (recvS i)
/-- with the barrier, every cell of the exchange. -/
abbrev CK : Type := Unit ⊕ OK
abbrev csem : CK → SemLoc sig := fun | .inl _ => .reg barS | .inr k => osem k
abbrev kcell (ck : Dev nD × CK) : GSem nD τ sig := ((ck.1 : Thread nD τ), csem ck.2)

/-- The credit of one copied block. -/
abbrev N : ℕ := (slotM 0).view.dmaCredit
theorem N_pos : 0 < N := View.dmaCredit_pos _ (by decide)
theorem amount_slot (i : Fin 31) : (slotM i).view.dmaCredit = N := rfl
theorem amount_rows (c : Dev nD) (i : Fin 31) : (rowsM c i).view.dmaCredit = N := rfl

/-! ## What is handed over -/

/-- Slot `i + 1` of device `t`, holding `f` there. -/
def slotPts (t : Dev nD) (i : Fin 31) (f : Buf (Elt F) ((slotM i).view.loc (t : Thread nD τ))) : sProp 𝕄 :=
  (slotM i).view.loc (t : Thread nD τ) ↦[(slotM i).view.set]{fullShare} f
/-- The rows device `c` sends at step `i`, holding its partial product. -/
def rowsPts (c : Dev nD) (i : Fin 31) : sProp 𝕄 :=
  (rowsM c i).view.loc (c : Thread nD τ) ↦[(rowsM c i).view.set]{fullShare} (part m ρ c : Buf (Elt F) ((rowsM c i).view.loc (c : Thread nD τ)))

omit [FloatOps F] in
instance slotPts_storable (t : Dev nD) (i) (f) : BI.Storable (upEmb : UEmb _ 𝕄) (slotPts (F := F) t i f) := by unfold slotPts; infer_instance
instance rowsPts_storable (c : Dev nD) (i) : BI.Storable (upEmb : UEmb _ 𝕄) (rowsPts (F := F) m ρ c i) :=
  (inferInstance : ∀ f : Buf (Elt F) ((rowsM c i).view.loc (c : Thread nD τ)), BI.Storable (upEmb : UEmb _ 𝕄)
    ((rowsM c i).view.loc (c : Thread nD τ) ↦[(rowsM c i).view.set]{fullShare} f)) (part m ρ c)

/-- What a raise of device `s`'s barrier cell by its `d`-th payer hands `s`. -/
def barPay (s : Dev nD) (d : Fin 31) : sProp 𝕄 := iprop(∃ f, slotPts (tgt d.rev s) d.rev f)

instance barPay_storable (s : Dev nD) (d) : BI.Storable (upEmb : UEmb _ 𝕄) (barPay (F := F) s d) := by unfold barPay; infer_instance

def sched : Rounds.Schedule (GSem nD τ sig) (Fin 31) 𝕄 where
  duties g r := if r = 0 ∧ g.1.2 = .tc then
    (match kindOf g.2 with | .bar => Finset.univ | .send _ => {0} | .recv _ => {0} | .idle => ∅) else ∅
  unitless _ := False
  amount g _ _ := if kindOf g.2 = .bar then 1 else N
  payload g _ d := match kindOf g.2 with
    | .bar => barPay g.1.1 d
    | .send i => rowsPts m ρ g.1.1 i
    | .recv i => slotPts g.1.1 i (gathered m ρ g.1.1)
    | .idle => iprop(emp)
  amount_pos g _ _ _ := by
    by_cases h : kindOf g.2 = .bar
    · rw [if_pos h]; exact Nat.one_pos
    · rw [if_neg h]; exact N_pos

instance sched_storable (g : GSem nD τ sig) (r : ℕ) (d : Fin 31) : BI.Storable (upEmb : UEmb _ 𝕄) ((sched (F := F) m ρ).payload g r d) := by
  show BI.Storable upEmb (match kindOf g.2 with
    | .bar => barPay g.1.1 d
    | .send i => rowsPts m ρ g.1.1 i
    | .recv i => slotPts g.1.1 i (gathered m ρ g.1.1)
    | .idle => iprop(emp))
  split
  · infer_instance
  · infer_instance
  · exact slotPts_storable _ _ _
  · infer_instance

section Tables
variable (c : Dev nD) (i : Fin 31)

theorem duties_bar : (sched (F := F) m ρ).duties (barCell c) 0 = Finset.univ := by
  dsimp only [sched]; rw [if_pos ⟨rfl, rfl⟩, kind_bar]
theorem duties_send : (sched (F := F) m ρ).duties (sendCell c i) 0 = {0} := by
  dsimp only [sched]; rw [if_pos ⟨rfl, rfl⟩, kind_send]
theorem duties_recv : (sched (F := F) m ρ).duties (recvCell c i) 0 = {0} := by
  dsimp only [sched]; rw [if_pos ⟨rfl, rfl⟩, kind_recv]
theorem duties_idle (k : Fin 2) (r : ℕ) : (sched (F := F) m ρ).duties ((c : Thread nD τ), .dma (idleS k)) r = ∅ := by
  dsimp only [sched]; rw [kind_idle]; split <;> rfl
theorem duties_later (g : GSem nD τ sig) : ∀ r, 1 ≤ r → (sched (F := F) m ρ).duties g r = ∅ :=
  fun r hr => by dsimp only [sched]; rw [if_neg fun h => by omega]

theorem amount_bar (r d) : (sched (F := F) m ρ).amount (barCell c) r d = 1 := by dsimp only [sched]; rw [if_pos kind_bar]
theorem amount_send (r d) : (sched (F := F) m ρ).amount (sendCell c i) r d = N := by
  dsimp only [sched]; rw [kind_send, if_neg (by simp)]
theorem amount_recv (r d) : (sched (F := F) m ρ).amount (recvCell c i) r d = N := by
  dsimp only [sched]; rw [kind_recv, if_neg (by simp)]

theorem expect_bar : (sched (F := F) m ρ).expect (barCell c) 0 = 31 := by
  unfold Schedule.expect Schedule.amountOf
  rw [duties_bar, Finset.sum_congr rfl fun d _ => amount_bar m ρ c 0 d, Finset.sum_const, Finset.card_univ, Fintype.card_fin, smul_eq_mul]
theorem expect_send : (sched (F := F) m ρ).expect (sendCell c i) 0 = N := by
  unfold Schedule.expect Schedule.amountOf; rw [duties_send, Finset.sum_singleton, amount_send]
theorem expect_recv : (sched (F := F) m ρ).expect (recvCell c i) 0 = N := by
  unfold Schedule.expect Schedule.amountOf; rw [duties_recv, Finset.sum_singleton, amount_recv]

theorem payload_bar (d) : (sched (F := F) m ρ).payload (barCell c) 0 d = barPay c d := by dsimp only [sched]; rw [kind_bar]
theorem payload_send (d) : (sched (F := F) m ρ).payload (sendCell c i) 0 d = rowsPts m ρ c i := by dsimp only [sched]; rw [kind_send]
theorem payload_recv (d) : (sched (F := F) m ρ).payload (recvCell c i) 0 d = slotPts c i (gathered m ρ c) := by dsimp only [sched]; rw [kind_recv]

theorem rest_bar : bigSep ((sched (F := F) m ρ).duties (barCell c) 0 \ ∅) (fun d => (sched (F := F) m ρ).payload (barCell c) 0 d)
    = bigSep Finset.univ fun i : Fin 31 => iprop(∃ f, slotPts (tgt i c) i f) := by
  rw [Finset.sdiff_empty, duties_bar, bigSep_congr fun d _ => payload_bar m ρ c d,
    bigSep_univ_equiv Fin.revPerm (fun i : Fin 31 => (iprop(∃ f, slotPts (tgt i c) i f) : sProp 𝕄))]
  rfl
theorem rest_send : bigSep ((sched (F := F) m ρ).duties (sendCell c i) 0 \ ∅) (fun d => (sched (F := F) m ρ).payload (sendCell c i) 0 d) = rowsPts m ρ c i := by
  rw [Finset.sdiff_empty, duties_send, bigSep_singleton, payload_send]
theorem rest_recv : bigSep ((sched (F := F) m ρ).duties (recvCell c i) 0 \ ∅) (fun d => (sched (F := F) m ρ).payload (recvCell c i) 0 d) = slotPts c i (gathered m ρ c) := by
  rw [Finset.sdiff_empty, duties_recv, bigSep_singleton, payload_recv]

end Tables

/-! ## What a device owes, and the levels -/

/-- The receive credit still owed when the copies of the steps `l` are to come, -/
def owedRecv (c : Dev nD) (l : List (Fin 31)) : CellTallies nD τ sig Unit := (l.map fun i => tallyAt (recvCell (tgt i c) i) () N).sum
/-- and the barrier units still owed when the signals of the steps `l` are to come. -/
def owedBar (c : Dev nD) (l : List (Fin 31)) : CellTallies nD τ sig Unit := (l.map fun i => tallyAt (barCell (tgt i c)) () 1).sum
def O₀ (c : Dev nD) : CellTallies nD τ sig Unit := owedRecv c steps + owedBar c steps

def L (g : GSem nD τ sig) : Finset Unit := if g.1.2 = .tc then {()} else ∅
def lv (g : GSem nD τ sig) (_ : Unit) : ℕ := match kindOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem sum_apply (f : Fin 31 → CellTallies nD τ sig Unit) (l : List (Fin 31)) (g u) : (l.map f).sum g u = (l.map fun i => f i g u).sum := by
  induction l with
  | nil => rfl
  | cons a l ih => rw [List.map_cons, List.sum_cons, List.map_cons, List.sum_cons, Pi.add_apply, Finsupp.add_apply, ih]

theorem sum_pos {f : Fin 31 → CellTallies nD τ sig Unit} {l : List (Fin 31)} {g u} (h : 0 < (l.map f).sum g u) : ∃ i ∈ l, 0 < f i g u := by
  rw [sum_apply] at h
  by_contra hn
  refine Nat.lt_irrefl 0 (h.trans_eq (List.sum_eq_zero fun x hx => ?_))
  obtain ⟨i, hi, rfl⟩ := List.mem_map.mp hx
  exact Nat.eq_zero_of_not_pos fun hp => hn ⟨i, hi, hp⟩

theorem owedRecv_pos {c : Dev nD} {l} {g u} (h : 0 < owedRecv c l g u) : ∃ i, g = recvCell (tgt i c) i := by
  obtain ⟨i, -, hi⟩ := sum_pos h
  rw [tallyAt_apply] at hi
  by_cases hg : g = recvCell (tgt i c) i ∧ u = ()
  · exact ⟨i, hg.1⟩
  · rw [if_neg hg] at hi; exact absurd hi (Nat.lt_irrefl 0)
theorem owedBar_pos {c : Dev nD} {l} {g u} (h : 0 < owedBar c l g u) : ∃ i, g = barCell (tgt i c) := by
  obtain ⟨i, -, hi⟩ := sum_pos h
  rw [tallyAt_apply] at hi
  by_cases hg : g = barCell (tgt i c) ∧ u = ()
  · exact ⟨i, hg.1⟩
  · rw [if_neg hg] at hi; exact absurd hi (Nat.lt_irrefl 0)

theorem owedBar_cons (c : Dev nD) (i) (l : List (Fin 31)) :
    owedRecv c steps + owedBar c (i :: l) = owedRecv c steps + owedBar c l + tallyAt (barCell (tgt i c)) () 1 := by
  unfold owedBar; rw [List.map_cons, List.sum_cons, add_comm (tallyAt _ _ _), add_assoc]
theorem owedRecv_cons (c : Dev nD) (i) (l : List (Fin 31)) : owedRecv c (i :: l) = owedRecv c l + tallyAt (recvCell (tgt i c) i) () N := by
  unfold owedRecv; rw [List.map_cons, List.sum_cons, add_comm]

/-- A staging wait, owing everything or nothing. -/
theorem mayWait_stage (c : Dev nD) (q : DmaSem sig) (hq : kindOf (.dma q) = .idle) (O : CellTallies nD τ sig Unit) (hO : O = O₀ c ∨ O = 0) :
    (levAts L lv : sProp 𝕄) ⊢ MayWait (c : Thread nD τ) (.dma q) () O := by
  have hpos : ∀ g u, 0 < O₀ c g u → (∃ i, g = recvCell (tgt i c) i) ∨ ∃ i, g = barCell (tgt i c) := fun g u h => by
    unfold O₀ at h
    rw [Pi.add_apply, Finsupp.add_apply] at h
    rcases (show (0 < owedRecv c steps g u ∨ 0 < owedBar c steps g u) by omega) with h | h
    · exact Or.inl (owedRecv_pos h)
    · exact Or.inr (owedBar_pos h)
  rcases hO with rfl | rfl
  · refine MayOwe.of_cut (L := L) (lev := lv) 0 (fun p hp => by rw [Finset.mem_singleton.mp hp, L_tc]; exact Finset.mem_singleton_self _)
      (fun g u hg => by rcases hpos g u hg with ⟨i, rfl⟩ | ⟨i, rfl⟩ <;> exact Finset.mem_singleton_self _)
      (fun p hp => by rw [Finset.mem_singleton.mp hp]; dsimp only [lv]; rw [hq])
      (fun g u hg => by
        rcases hpos g u hg with ⟨i, rfl⟩ | ⟨i, rfl⟩
        · dsimp only [lv]; rw [kind_recv]; exact Nat.two_pos
        · dsimp only [lv]; rw [kind_bar]; exact Nat.one_pos)
  · rw [MayWait_zero]; iintro -; iempintro

/-- The barrier wait, owing receive credit only. -/
theorem mayWait_bar (c : Dev nD) : (levAts L lv : sProp 𝕄) ⊢ MayWait (c : Thread nD τ) (.reg barS) () (owedRecv c steps) :=
  MayOwe.of_cut (L := L) (lev := lv) 1 (fun p hp => by rw [Finset.mem_singleton.mp hp, L_tc]; exact Finset.mem_singleton_self _)
    (fun g u hg => by obtain ⟨i, rfl⟩ := owedRecv_pos hg; exact Finset.mem_singleton_self _)
    (fun p hp => by rw [Finset.mem_singleton.mp hp]; dsimp only [lv]; rw [kind_bar])
    (fun g u hg => by obtain ⟨i, rfl⟩ := owedRecv_pos hg; dsimp only [lv]; rw [kind_recv]; exact Nat.one_lt_two)

/-! ## The loops -/

abbrev 𝒱₀ : Variants := Variants.none

/-- The invariants of every cell of the exchange, under the names `K`, and that each is at its round. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

theorem records_inv (K : Dev nD × CK → ℕ) (ck : Dev nD × CK) : records m ρ K ⊢ cellInv ER (sched m ρ) (K ck) (kcell ck) := by
  refine (show _ ⊢ (bigSep Finset.univ fun ck : Dev nD × CK => (cellInv ER (sched m ρ) (K ck) (kcell ck) : sProp 𝕄)) from ?_).trans
    (bigSep_elim (Finset.mem_univ ck))
  unfold records
  iintro ⟨H, -⟩
  iexact H
theorem records_reached (K : Dev nD × CK → ℕ) (ck : Dev nD × CK) : records m ρ K ⊢ reached ER (kcell ck) 0 := by
  refine (show _ ⊢ (bigSep Finset.univ fun ck : Dev nD × CK => (reached ER (kcell ck) 0 : sProp 𝕄)) from ?_).trans
    (bigSep_elim (Finset.mem_univ ck))
  unfold records
  iintro ⟨-, H⟩
  iexact H

abbrev barK (K : Dev nD × CK → ℕ) (c : Dev nD) : ℕ := K (c, .inl ())
abbrev sendK (K : Dev nD × CK → ℕ) (c : Dev nD) (i : Fin 31) : ℕ := K (c, .inr (.inr (.inl i)))
abbrev recvK (K : Dev nD × CK → ℕ) (c : Dev nD) (i : Fin 31) : ℕ := K (c, .inr (.inr (.inr i)))

/-- A loop: what every step takes (`Φ`) and gives (`Ψ`), beside a state `I` that depends on the steps to come. -/
theorem wp_loop (c : Dev nD) (p : Fin 31 → Prog (TpuEff nD τ sig (Elt F) Λ₀ .tc) PUnit) (R : sProp 𝕄) [BI.Persistent R]
    (I : List (Fin 31) → sProp 𝕄) (Φ Ψ : Fin 31 → sProp 𝕄) {α : Type} (Q : α → sProp 𝕄)
    (step : ∀ i l (k : PUnit → Prog (TpuEff nD τ sig (Elt F) Λ₀ .tc) α),
      iprop(R ∗ I (i :: l) ∗ Φ i) ⊢ iprop((iprop(I l ∗ Ψ i) -∗ wp frame (wpE (defs₀ (F := F)) 𝒱₀ (c : Thread nD τ) none) Set.univ (k ⟨⟩) Q)
        -∗ wp frame (wpE (defs₀ (F := F)) 𝒱₀ (c : Thread nD τ) none) Set.univ ((p i).bind k) Q))
    (l : List (Fin 31)) (hl : l.Nodup) (k : Prog (TpuEff nD τ sig (Elt F) Λ₀ .tc) α) :
    iprop(R ∗ I l ∗ bigSep l.toFinset Φ) ⊢ iprop((iprop(I [] ∗ bigSep l.toFinset Ψ) -∗ wp frame (wpE (defs₀ (F := F)) 𝒱₀ (c : Thread nD τ) none) Set.univ k Q)
        -∗ wp frame (wpE (defs₀ (F := F)) 𝒱₀ (c : Thread nD τ) none) Set.univ (loop p l k) Q) := by
  induction l with
  | nil =>
    rw [List.toFinset_nil, bigSep_empty, bigSep_empty]
    show _ ⊢ iprop(_ -∗ wp frame (wpE (defs₀ (F := F)) 𝒱₀ (c : Thread nD τ) none) Set.univ k Q)
    iintro ⟨-, HI, -⟩ Hk
    iapply Hk
    isplitl [HI]; · iexact HI
    iempintro
  | cons i l ih =>
    have hi : i ∉ l.toFinset := by rw [List.mem_toFinset]; exact (List.nodup_cons.mp hl).1
    have e1 : bigSep (insert i l.toFinset) Φ = (iprop(Φ i ∗ bigSep l.toFinset Φ) : sProp 𝕄) := bigSep_insert hi
    have e2 : bigSep (insert i l.toFinset) Ψ = (iprop(Ψ i ∗ bigSep l.toFinset Ψ) : sProp 𝕄) := bigSep_insert hi
    rw [List.toFinset_cons, e1, e2]
    show _ ⊢ iprop(_ -∗ wp frame (wpE (defs₀ (F := F)) 𝒱₀ (c : Thread nD τ) none) Set.univ ((p i).bind fun _ => loop p l k) Q)
    iintro ⟨#HR, HI, Hi, Hl⟩ Hk
    iapply (step i l fun _ => loop p l k) $$ [HI Hi]
    · isplitr; · iexact HR
      isplitl [HI] <;> iassumption
    iintro ⟨HI, Hi⟩
    iapply (ih (List.nodup_cons.mp hl).2) $$ [HI Hl]
    · isplitr; · iexact HR
      isplitl [HI] <;> iassumption
    iintro ⟨HI, Hl⟩
    iapply Hk
    isplitl [HI]; · iexact HI
    isplitl [Hi] <;> iassumption

theorem steps_toFinset : steps.toFinset = Finset.univ := Finset.eq_univ_iff_forall.mpr fun i => List.mem_toFinset.mpr (mem_steps i)

/-- What is owed, at some record of waits. -/
def owing (c : Dev nD) (O : CellTallies nD τ sig Unit) : sProp 𝕄 := iprop(∃ W, owes (c : Thread nD τ) O W)

section Steps
variable (K : Dev nD × CK → ℕ) (c : Dev nD)

/-- A signal: the token of its duty and the slot it hands over. -/
theorem sig_step {α : Type} (Q : α → sProp 𝕄) (i : Fin 31) (l : List (Fin 31)) (k : PUnit → Prog (TpuEff nD τ sig (Elt F) Λ₀ .tc) α) :
    iprop(records m ρ K ∗ owing c (owedRecv c steps + owedBar c (i :: l)) ∗ (dutyTok ER (barCell (tgt i c)) 0 i ∗ ∃ f, slotPts c i.rev f))
      ⊢ iprop((iprop(owing c (owedRecv c steps + owedBar c l) ∗ emp) -∗ wp frame (wpE (defs₀ (F := F)) 𝒱₀ (c : Thread nD τ) none) Set.univ (k ⟨⟩) Q)
        -∗ wp frame (wpE (defs₀ (F := F)) 𝒱₀ (c : Thread nD τ) none) Set.univ ((sigStep c i).bind k) Q) := by
  unfold sigStep
  rw [sigDev_eq]
  simp only [semSignalWord, Prog.bind_op, Prog.bind_ret]
  unfold owing
  iintro ⟨#HR, ⟨%W, HO⟩, Ht, Hs⟩ Hk
  ihave #HI := (records_inv m ρ K (tgt i c, .inl ())) $$ HR
  ihave #Hr := (records_reached m ρ K (tgt i c, .inl ())) $$ HR
  iapply (Rounds.wp_signal 𝒱₀ ER (sched m ρ) (c : Thread nD τ) none (dst := (tgt i c : Thread nD τ)) (κ := barK K (tgt i c))
      (d := i) (by rw [duties_bar]; exact Finset.mem_univ _) ((amount_bar m ρ (tgt i c) 0 i).trans (by decide)) ()
      (owedRecv c steps + owedBar c l) (owedBar_cons c i l))
    $$ [HO Ht Hs]
  · isplitr; · iexact HI
    isplitl [HO]; · iexact HO
    isplitl [Ht]; · iexact Ht
    isplitl [Hs]
    · rw [payload_bar]; unfold barPay; rw [tgt_rev]; iexact Hs
    iexact Hr
  iintro HO
  iapply Hk
  isplitl [HO]
  · iexists W; iexact HO
  iempintro

/-- A copy: the rows to send, the slot they go to, and the two tokens. -/
theorem cpy_at {α : Type} (Q : α → sProp 𝕄) (i : Fin 31) (l : List (Fin 31)) (k : PUnit → Prog (TpuEff nD τ sig (Elt F) Λ₀ .tc) α)
    (n : Dev nD) (hn : n = tgt i c) {hsc : (slotM i).view.ref.isScScratch = false} {hsrc : (rowsM c i).view.WordExact} {hdst : (slotM i).view.WordExact}
    {hsem : DmaTarget.Typed .vmem (.dma (recvS i)) (.remote (Dev.tc n) (slotM i) (.dma (sendS i)) hsc)} :
    iprop(records m ρ K ∗ owing c (owedRecv c (i :: l))
        ∗ (rowsPts m ρ c i ∗ (∃ f, slotPts (tgt i c) i f) ∗ dutyTok ER (sendCell c i) 0 0 ∗ dutyTok ER (recvCell (tgt i c) i) 0 0))
      ⊢ iprop((iprop(owing c (owedRecv c l) ∗ cred (tallyAt (sendCell c i) () N)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (rowsM c i) (.remote (Dev.tc n) (slotM i) (.dma (sendS i)) hsc) (.dma (recvS i)) hsrc hdst hsem) k) Q) := by
  subst hn
  unfold owing
  iintro ⟨#HR, ⟨%W, HO⟩, Hrows, ⟨%f, Hslot⟩, HtS, HtV⟩ Hk
  ihave #HIs := (records_inv m ρ K (c, .inr (.inr (.inl i)))) $$ HR
  ihave #Hrs := (records_reached m ρ K (c, .inr (.inr (.inl i)))) $$ HR
  ihave #HIv := (records_inv m ρ K (tgt i c, .inr (.inr (.inr i)))) $$ HR
  ihave #Hrv := (records_reached m ρ K (tgt i c, .inr (.inr (.inr i)))) $$ HR
  unfold rowsPts slotPts
  iapply (Rounds.wp_send_pointsTo 𝒱₀ ER (sched m ρ) (c : Thread nD τ) none (κ₁ := sendK K c i) (κ₂ := recvK K (tgt i c) i)
    (r₁ := 0) (r₂ := 0) (d₁ := 0) (d₂ := 0) (fs := part m ρ c) (fd := f)
    (by rw [duties_send]; exact Finset.mem_singleton_self _) (by rw [duties_recv]; exact Finset.mem_singleton_self _)
    () () N rfl (amount_send m ρ c i 0 0) (amount_recv m ρ (tgt i c) i 0 0) (owedRecv c l)
    (owedRecv_cons c i l) (W := W)
    (by rw [payload_send]; exact BI.Entails.refl _)
    (by rw [payload_recv]; unfold slotPts; exact Entails.of_eq (pointsTo_congr fun x hx => landed_eq m ρ c i f x hx))) $$ [HO Hrows Hslot HtS HtV]
  · isplitr; · iexact HIs
    isplitr; · iexact HIv
    isplitl [Hrows]; · iexact Hrows
    isplitl [Hslot]; · iexact Hslot
    isplitl [HO]; · iexact HO
    isplitl [HtS]; · iexact HtS
    isplitr; · iexact Hrs
    isplitl [HtV]; · iexact HtV
    iexact Hrv
  iintro ⟨Hc, HO⟩
  iapply Hk
  isplitl [HO]
  · iexists W; iexact HO
  iexact Hc

theorem cpy_step {α : Type} (Q : α → sProp 𝕄) (i : Fin 31) (l : List (Fin 31)) (k : PUnit → Prog (TpuEff nD τ sig (Elt F) Λ₀ .tc) α) :
    iprop(records m ρ K ∗ owing c (owedRecv c (i :: l))
        ∗ (rowsPts m ρ c i ∗ (∃ f, slotPts (tgt i c) i f) ∗ dutyTok ER (sendCell c i) 0 0 ∗ dutyTok ER (recvCell (tgt i c) i) 0 0))
      ⊢ iprop((iprop(owing c (owedRecv c l) ∗ cred (tallyAt (sendCell c i) () N)) -∗ wp frame (wpE (defs₀ (F := F)) 𝒱₀ (c : Thread nD τ) none) Set.univ (k ⟨⟩) Q)
        -∗ wp frame (wpE (defs₀ (F := F)) 𝒱₀ (c : Thread nD τ) none) Set.univ ((cpyStep c i).bind k) Q) :=
  cpy_at m ρ K c Q i l k (cpyDev i c) (cpyDev_eq i c)

/-- The two waits of a copy: the sent rows come back, the received slot comes filled, and both cells close at zero. -/
theorem wait_step {α : Type} (Q : α → sProp 𝕄) (i : Fin 31) (l : List (Fin 31)) (k : PUnit → Prog (TpuEff nD τ sig (Elt F) Λ₀ .tc) α) :
    iprop(records m ρ K ∗ owing c 0
        ∗ (cred (tallyAt (sendCell c i) () N) ∗ cred (tallyAt (recvCell c i) () N) ∗ atPos ER (sendCell c i) 0 ∅ 0 ∗ atPos ER (recvCell c i) 0 ∅ 0))
      ⊢ iprop((iprop(owing c 0 ∗ (rowsPts m ρ c i ∗ slotPts c i (gathered m ρ c) ∗ semVal (sendCell c i) 0 ∗ semVal (recvCell c i) 0))
          -∗ wp frame (wpE (defs₀ (F := F)) 𝒱₀ (c : Thread nD τ) none) Set.univ (k ⟨⟩) Q)
        -∗ wp frame (wpE (defs₀ (F := F)) 𝒱₀ (c : Thread nD τ) none) Set.univ ((waitStep c i).bind k) Q) := by
  unfold waitStep
  simp only [Prog.lift, Bind.bind, Prog.bind_op, Prog.bind_ret]
  unfold owing
  iintro ⟨#HR, ⟨%W, HO⟩, HcS, HcV, HatS, HatV⟩ Hk
  ihave #HIs := (records_inv m ρ K (c, .inr (.inr (.inl i)))) $$ HR
  ihave #HIv := (records_inv m ρ K (c, .inr (.inr (.inr i)))) $$ HR
  iapply (Rounds.wp_wait_rest_token 𝒱₀ ER (sched m ρ) (c : Thread nD τ) none (κ := sendK K c i)
      (wpE_waitDma2_eq 𝒱₀ (c : Thread nD τ) none Set.univ) (Set.mem_univ _) () (O := 0) (W := W) (R := 0) (m := 0) (T := ∅)
      (by rw [Nat.zero_add, expect_send])) $$ [HcS HO HatS]
  · isplitr; · iexact HIs
    isplitl [HcS]; · iexact HcS
    isplitl [HO]; · iexact HO
    isplitr; · rw [MayWait_zero]; iempintro
    iexact HatS
  iintro ⟨HO, HatS, -, Hpay⟩
  ihave Hrows := (Entails.of_eq (rest_send m ρ c i)) $$ Hpay
  iapply (Rounds.wp_wait_rest_token 𝒱₀ ER (sched m ρ) (c : Thread nD τ) none (κ := recvK K c i)
      (wpE_waitDma2_eq 𝒱₀ (c : Thread nD τ) none Set.univ) (Set.mem_univ _) () (O := 0) (W := insert (SemLoc.dma (sendS i), ()) W) (R := 0) (m := 0) (T := ∅)
      (by rw [Nat.zero_add, expect_recv])) $$ [HcV HO HatV]
  · isplitr; · iexact HIv
    isplitl [HcV]; · iexact HcV
    isplitl [HO]; · iexact HO
    isplitr; · rw [MayWait_zero]; iempintro
    iexact HatV
  iintro ⟨HO, HatV, -, Hpay⟩
  ihave Hslot := (Entails.of_eq (rest_recv m ρ c i)) $$ Hpay
  imod (Rounds.cell_close ER (sched m ρ) (Set.mem_univ (sendK K c i)) (fun h => h) (R := 0 + 1) (duties_later m ρ (sendCell c i))) $$ [HatS] with HzS
  · isplitr; · iexact HIs
    iexact HatS
  imod (Rounds.cell_close ER (sched m ρ) (Set.mem_univ (recvK K c i)) (fun h => h) (R := 0 + 1) (duties_later m ρ (recvCell c i))) $$ [HatV] with HzV
  · isplitr; · iexact HIv
    iexact HatV
  iapply Hk
  isplitl [HO]
  · iexists (insert (SemLoc.dma (recvS i), ()) (insert (SemLoc.dma (sendS i), ()) W)); iexact HO
  isplitl [Hrows]; · iexact Hrows
  isplitl [Hslot]; · iexact Hslot
  isplitl [HzS] <;> iassumption

end Steps

end Cert.MoE

end
-- ==== Proof.Body.lean ====
/-
The body of the kernel on one device, run from what the launch hands it to what it leaves.
-/
module

public import proofs.«01_k».proof.Proof.Sched

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two buffers in pieces -/

omit [FloatOps F] in
theorem bigSep_option (Φ : Option (Fin 31) → sProp 𝕄) :
    bigSep Finset.univ Φ = iprop(Φ none ∗ bigSep Finset.univ fun i => Φ (some i)) := by
  rw [bigSep_univ_at Φ none,
    show (Finset.univ.erase none : Finset (Option (Fin 31))) = Finset.univ.map Function.Embedding.some from by
      ext o; cases o <;> simp, bigSep_map]
  rfl

/-- A partial product, whole; -/
def pAll (c : Dev nD) (f : Buf (Elt F) (pM.view.loc (c : Thread nD τ))) : sProp 𝕄 := pM.view.loc (c : Thread nD τ) ↦{fullShare} f
/-- its own rows; -/
def pOwn (c : Dev nD) (f : Buf (Elt F) (pM.view.loc (c : Thread nD τ))) : sProp 𝕄 := pM.view.loc (c : Thread nD τ) ↦[(ownR c).set]{fullShare} f
/-- the landing buffer, whole; -/
def mAll (c : Dev nD) (f : Buf (Elt F) (mM.view.loc (c : Thread nD τ))) : sProp 𝕄 := mM.view.loc (c : Thread nD τ) ↦{fullShare} f
/-- its own slot. -/
def mOwn (c : Dev nD) (f : Buf (Elt F) (mM.view.loc (c : Thread nD τ))) : sProp 𝕄 := mM.view.loc (c : Thread nD τ) ↦[slot0R.set]{fullShare} f

theorem p_split (c : Dev nD) : (pAll c (part m ρ c) : sProp 𝕄) = iprop(pOwn c (part m ρ c) ∗ bigSep Finset.univ fun i => rowsPts m ρ c i) := by
  unfold pAll pOwn rowsPts
  have h := pointsTo_biUnion (Ix := Unit) (Name := ℕ) (U := UU) (Lvl := ℕ) (Val := Elt F) (ℓ := pM.view.loc (c : Thread nD τ)) (q := fullShare) (f := (part m ρ c : (cc0_scratch0 : Ref sig .tc).ty.Contents (Elt F)))
    Finset.univ (rowsSet c) (fun a _ b _ => rowsSet_disj c a b)
  rw [rowsSet_cover, bigSep_option] at h
  exact h
theorem m_split (c : Dev nD) (f : Buf (Elt F) (mM.view.loc (c : Thread nD τ))) :
    (mAll c f : sProp 𝕄) = iprop(mOwn c f ∗ bigSep Finset.univ fun i => slotPts c i f) := by
  unfold mAll mOwn slotPts
  have h := pointsTo_biUnion (Ix := Unit) (Name := ℕ) (U := UU) (Lvl := ℕ) (ℓ := mM.view.loc (c : Thread nD τ)) (q := fullShare) (f := f)
    Finset.univ slotSet (fun a _ b _ => slotSet_disj a b)
  rw [slotSet_cover, bigSep_option] at h
  exact h

/-- The landing buffer at any contents: its own slot, and every other one in the order of the signals. -/
theorem m_give (c : Dev nD) (f : Buf (Elt F) (mM.view.loc (c : Thread nD τ))) :
    (mAll c f : sProp 𝕄) ⊢ iprop(mOwn c f ∗ bigSep Finset.univ fun i : Fin 31 => iprop(∃ f, slotPts c i.rev f)) := by
  rw [m_split, bigSep_univ_equiv Fin.revPerm (fun i : Fin 31 => (slotPts c i f : sProp 𝕄))]
  iintro ⟨H, Hs⟩
  isplitl [H]; · iexact H
  ihave Hs := (show (bigSep Finset.univ fun i : Fin 31 => (slotPts c (Fin.revPerm i) f : sProp 𝕄)) ⊢ bigSep Finset.univ fun i : Fin 31 => iprop(∃ f, slotPts c i.rev f)
    from bigSep_mono fun i _ => (show (slotPts c (Fin.revPerm i) f : sProp 𝕄) ⊢ iprop(∃ f, slotPts c i.rev f) from by
      iintro H; iexists f; iexact H)) $$ Hs
  iexact Hs

/-! ## What the loads and stores of whole buffers read and write -/

theorem hz2 : (![0, 0] : Fin 2 → Nat) = fun _ => 0 := funext fun a => by fin_cases a <;> rfl
theorem hz3 : (![0, 0, 0] : Fin 3 → Nat) = fun _ => 0 := funext fun a => by fin_cases a <;> rfl

abbrev pR : Rect S1024x512 := Rect.unit (s := S1024x512) ![0, 0] S1024x512.size inb_S1024x512_S1024x512_0_0
abbrev mR : Rect S32x32x512 := Rect.unit (s := S32x32x512) ![0, 0, 0] S32x32x512.size inb_S32x32x512_S32x32x512_0_0_0
abbrev oR : Rect S32x512 := Rect.unit (s := S32x512) ![0, 0] S32x512.size inb_S32x512_S32x512_0_0

omit [FloatOps F] in
theorem write_p (f w : (cc0_scratch0 : Ref sig .tc).ty.Contents (Elt F)) : (pM.access pR : View sig .tc _ _ _).write (Elt F) f w Finset.univ = w :=
  Memref.write_access_unit_zero_univ (Elt F) cc0_scratch0 hz2 _ f w
omit [FloatOps F] in
theorem write_o (f w : (cc0_stg4_0 : Ref sig .tc).ty.Contents (Elt F)) : (oM.access oR : View sig .tc _ _ _).write (Elt F) f w Finset.univ = w :=
  Memref.write_access_unit_zero_univ (Elt F) cc0_stg4_0 hz2 _ f w
omit [FloatOps F] in
theorem read_m (f : (cc0_scratch1 : Ref sig .tc).ty.Contents (Elt F)) : mM.view.readAt (Elt F) mR.toLoadRect f = f :=
  Memref.readAt_unit_zero (Elt F) cc0_scratch1 hz3 _ f

theorem own_sub (c : Dev nD) : (pM.access (ownR c)).set ⊆ (ownR c).set := le_of_eq (View.set_slice_whole cc0_scratch0 (ownR c))
theorem slot0_sub : (mM.access slot0R).set ⊆ slot0R.set := le_of_eq (View.set_slice_whole cc0_scratch1 slot0R)

omit [FloatOps F] in
theorem bigSep_two (Φ : Fin 2 → sProp 𝕄) : bigSep Finset.univ Φ = iprop(Φ 0 ∗ Φ 1) := bigSep_fin_two Φ

/-! ## The body -/

/-- The loop lemma over all the steps. -/
theorem wp_steps (c : Dev nD) (p : Fin 31 → Prog (TpuEff nD τ sig (Elt F) Λ₀ .tc) PUnit) (R : sProp 𝕄) [BI.Persistent R]
    (I : List (Fin 31) → sProp 𝕄) (Φ Ψ : Fin 31 → sProp 𝕄) {α : Type} (Q : α → sProp 𝕄)
    (step : ∀ i l (k : PUnit → Prog (TpuEff nD τ sig (Elt F) Λ₀ .tc) α),
      iprop(R ∗ I (i :: l) ∗ Φ i) ⊢ iprop((iprop(I l ∗ Ψ i) -∗ wp frame (wpE (defs₀ (F := F)) 𝒱₀ (c : Thread nD τ) none) Set.univ (k ⟨⟩) Q)
        -∗ wp frame (wpE (defs₀ (F := F)) 𝒱₀ (c : Thread nD τ) none) Set.univ ((p i).bind k) Q))
    (k : Prog (TpuEff nD τ sig (Elt F) Λ₀ .tc) α) :
    iprop(R ∗ I steps ∗ bigSep Finset.univ Φ) ⊢ iprop((iprop(I [] ∗ bigSep Finset.univ Ψ) -∗ wp frame (wpE (defs₀ (F := F)) 𝒱₀ (c : Thread nD τ) none) Set.univ k Q)
        -∗ wp frame (wpE (defs₀ (F := F)) 𝒱₀ (c : Thread nD τ) none) Set.univ (loop p steps k) Q) := by
  have h := wp_loop c p R I Φ Ψ Q step steps steps_nodup k
  rwa [steps_toFinset] at h

section Body

variable (K : Dev nD × CK → ℕ)

/-- The exchange's ghost state device `c` starts from: what is known of all cells, its own positions, and the tokens of
    the duties it pays. -/
def ghost (c : Dev nD) : sProp 𝕄 :=
  iprop(records m ρ K
    ∗ atPos ER (barCell c) 0 ∅ 0
    ∗ (bigSep Finset.univ fun k : Fin 2 => atPos ER ((c : Thread nD τ), .dma (idleS k)) 0 ∅ 0)
    ∗ (bigSep Finset.univ fun i : Fin 31 => atPos ER (sendCell c i) 0 ∅ 0)
    ∗ (bigSep Finset.univ fun i : Fin 31 => atPos ER (recvCell c i) 0 ∅ 0)
    ∗ (bigSep Finset.univ fun i : Fin 31 => dutyTok ER (barCell (tgt i c)) 0 i)
    ∗ (bigSep Finset.univ fun i : Fin 31 => dutyTok ER (sendCell c i) 0 0)
    ∗ (bigSep Finset.univ fun i : Fin 31 => dutyTok ER (recvCell (tgt i c) i) 0 0))

/-- With it, its credit and the levels. -/
def creds (c : Dev nD) : sProp 𝕄 :=
  iprop(cred (tallyAt (barCell c) () 31) ∗ bigSep Finset.univ fun i : Fin 31 => cred (tallyAt (recvCell c i) () N))
def start (c : Dev nD) : sProp 𝕄 := iprop((∃ K, ghost m ρ K c) ∗ creds c ∗ levAts L lv)

def Φ₀ (c : Dev nD) : sProp 𝕄 := iprop(start m ρ c ∗ (∃ f, pAll c f) ∗ ∃ f, mAll c f)
/-- At the end: the two buffers whole, and every cell of the exchange closed at zero. -/
def Φ₁ (c : Dev nD) : sProp 𝕄 :=
  iprop((∃ f, pAll c f) ∗ (∃ f, mAll c f) ∗ (bigSep Finset.univ fun k : Fin 2 => semVal ((c : Thread nD τ), .dma (idleS k)) 0)
    ∗ (bigSep Finset.univ fun i : Fin 31 => semVal (sendCell c i) 0) ∗ (bigSep Finset.univ fun i : Fin 31 => semVal (recvCell c i) 0)
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xStg m ρ c
    | ⟨1, _⟩ => wStg m ρ c
    | ⟨2, _⟩ => iStg m ρ c
    | ⟨3, _⟩ => eStg m ρ c
    | ⟨4, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The unused slots' cells close. -/
theorem close_idle (c : Dev nD) :
    iprop(records m ρ K ∗ bigSep Finset.univ fun k : Fin 2 => atPos ER ((c : Thread nD τ), .dma (idleS k)) 0 ∅ 0)
      ⊢ |={Set.univ}=> (bigSep Finset.univ fun k : Fin 2 => semVal ((c : Thread nD τ), .dma (idleS k)) 0 : sProp 𝕄) := by
  rw [bigSep_two, bigSep_two]
  iintro ⟨#HR, H0, H1⟩
  ihave #HI0 := (records_inv m ρ K (c, .inr (.inl 0))) $$ HR
  ihave #HI1 := (records_inv m ρ K (c, .inr (.inl 1))) $$ HR
  imod (Rounds.cell_close ER (sched m ρ) (Set.mem_univ (K (c, .inr (.inl 0)))) (fun h => h) (R := 0) (fun r _ => duties_idle m ρ c 0 r)) $$ [H0] with H0
  · isplitr; · iexact HI0
    iexact H0
  imod (Rounds.cell_close ER (sched m ρ) (Set.mem_univ (K (c, .inr (.inl 1)))) (fun h => h) (R := 0) (fun r _ => duties_idle m ρ c 1 r)) $$ [H1] with H1
  · isplitr; · iexact HI1
    iexact H1
  imodintro
  isplitl [H0]; · iexact H0
  iexact H1

def oAll (c : Dev nD) (f : Buf (Elt F) (oM.view.loc (c : Thread nD τ))) : sProp 𝕄 := oM.view.loc (c : Thread nD τ) ↦{fullShare} f

set_option maxHeartbeats 1600000 in
/-- From the partial product stored to the end. -/
theorem sound_tail (c : Dev nD) (f : Buf (Elt F) (mM.view.loc (c : Thread nD τ))) (g : Buf (Elt F) (oM.view.loc (c : Thread nD τ))) (Kt : PUnit → sProp 𝕄) :
    iprop((ghost m ρ K c ∗ creds c ∗ levAts L lv ∗ owing c (O₀ c) ∗ pAll c (part m ρ c) ∗ mAll c f ∗ oAll c g)
        ∗ (iprop(Φ₁ c ∗ owing c 0 ∗ oAll c (outC m ρ c)) -∗ Kt ⟨⟩))
      ⊢ wp frame (wpE (defs₀ (F := F)) 𝒱₀ (c : Thread nD τ) none) Set.univ (tailP c) Kt := by
  unfold tailP ghost creds
  simp only [semWaitWord, Prog.lift, Prog.bind_op, Prog.bind_ret]
  iintro ⟨⟨⟨#HR, HatB, HatI, HatS, HatV, HtB, HtS, HtV⟩, ⟨HcB, HcV⟩, #Hlev, HO, Hp, Hm, Hout⟩, Hk⟩
  ihave Hm2 := (m_give c f) $$ Hm
  icases Hm2 with ⟨Hm0, Hslots⟩
  unfold O₀
  -- the signals
  iapply (wp_steps c (sigStep c) (records m ρ K) (fun l => owing c (owedRecv c steps + owedBar c l))
      (fun i => iprop(dutyTok ER (barCell (tgt i c)) 0 i ∗ ∃ f, slotPts c i.rev f)) (fun _ => iprop(emp)) Kt
      (fun i l k => sig_step m ρ K c Kt i l k)) $$ [HO HtB Hslots]
  · isplitr; · iexact HR
    isplitl [HO]; · iexact HO
    rw [bigSep_sep']
    isplitl [HtB] <;> iassumption
  iintro ⟨HO, -⟩
  unfold owing
  icases HO with ⟨%W, HO⟩
  ihave HO := (Entails.of_eq (congrArg (fun O => (owes (c : Thread nD τ) O W : sProp 𝕄)) (show owedRecv c steps + owedBar c [] = owedRecv c steps from add_zero _))) $$ HO
  -- the wait for all the signals
  ihave #HIb := (records_inv m ρ K (c, .inl ())) $$ HR
  iapply (Rounds.wp_wait_rest_token 𝒱₀ ER (sched m ρ) (c : Thread nD τ) none (κ := barK K c)
      (wpE_semWait_eq 𝒱₀ (c : Thread nD τ) none Set.univ) (Set.mem_univ _) () (O := owedRecv c steps) (W := W) (R := 0) (m := 0) (T := ∅)
      (by rw [Nat.zero_add, expect_bar]; decide)) $$ [HcB HO HatB]
  · isplitr; · iexact HIb
    isplitl [HcB]; · iexact HcB
    isplitl [HO]; · iexact HO
    isplitr; · iapply (mayWait_bar (F := F) c); iexact Hlev
    iexact HatB
  iintro ⟨HO, HatB, -, Hpay⟩
  ihave Hslots := (Entails.of_eq (rest_bar m ρ c)) $$ Hpay
  -- the copies
  ihave Hp2 := (Entails.of_eq (p_split m ρ c)) $$ Hp
  icases Hp2 with ⟨Hp0, Hrows⟩
  iapply (wp_steps c (cpyStep c) (records m ρ K) (fun l => owing c (owedRecv c l))
      (fun i => iprop(rowsPts m ρ c i ∗ (∃ f, slotPts (tgt i c) i f) ∗ dutyTok ER (sendCell c i) 0 0 ∗ dutyTok ER (recvCell (tgt i c) i) 0 0))
      (fun i => cred (tallyAt (sendCell c i) () N)) Kt
      (fun i l k => cpy_step m ρ K c Kt i l k)) $$ [HO Hrows Hslots HtS HtV]
  · isplitr; · iexact HR
    isplitl [HO]; · unfold owing; iexists _; iexact HO
    simp only [bigSep_sep']
    isplitl [Hrows]; · iexact Hrows
    isplitl [Hslots]; · iexact Hslots
    isplitl [HtS] <;> iassumption
  iintro ⟨HO, HcS⟩
  -- the own block
  unfold pOwn mOwn
  iapply (wp_load_rect 𝒱₀ (c : Thread nD τ) none Set.univ (m := pM) (r := ownR c) (own_sub c)) $$ Hp0; iintro Hp0
  iapply (wp_load_rect 𝒱₀ (c : Thread nD τ) none Set.univ (m := mM) (r := slot0R) slot0_sub) $$ Hm0; iintro Hm0
  iapply (wp_store 𝒱₀ (c : Thread nD τ) none Set.univ (m := mM) (r := slot0R) (Mk := Finset.univ) slot0_sub) $$ Hm0; iintro Hm0
  ihave Hm0 := (Entails.of_eq (pointsTo_congr (g := gathered m ρ c) fun x hx => kept_eq m ρ c f x hx)) $$ Hm0
  -- the waits
  iapply (wp_steps c (waitStep c) (records m ρ K) (fun _ => owing c 0)
      (fun i => iprop(cred (tallyAt (sendCell c i) () N) ∗ cred (tallyAt (recvCell c i) () N) ∗ atPos ER (sendCell c i) 0 ∅ 0 ∗ atPos ER (recvCell c i) 0 ∅ 0))
      (fun i => iprop(rowsPts m ρ c i ∗ slotPts c i (gathered m ρ c) ∗ semVal (sendCell c i) 0 ∗ semVal (recvCell c i) 0)) Kt
      (fun i l k => wait_step m ρ K c Kt i l k)) $$ [HO HcS HcV HatS HatV]
  · isplitr; · iexact HR
    isplitl [HO]; · iexact HO
    simp only [bigSep_sep']
    isplitl [HcS]; · iexact HcS
    isplitl [HcV]; · iexact HcV
    isplitl [HatS] <;> iassumption
  simp only [bigSep_sep']
  iintro ⟨HO, Hrows, Hslots, HzS, HzV⟩
  ihave Hm := (Entails.of_eq (m_split c (gathered m ρ c)).symm) $$ [Hm0 Hslots]
  · unfold mOwn
    isplitl [Hm0] <;> iassumption
  ihave Hp := (Entails.of_eq (p_split m ρ c).symm) $$ [Hp0 Hrows]
  · unfold pOwn
    isplitl [Hp0] <;> iassumption
  imod (Rounds.cell_close ER (sched m ρ) (Set.mem_univ (barK K c)) (fun h => h) (R := 0 + 1) (duties_later m ρ (barCell c))) $$ [HatB] with HzB
  · isplitr; · iexact HIb
    iexact HatB
  imod (close_idle m ρ K c) $$ [HatI] with HzI
  · isplitr; · iexact HR
    iexact HatI
  -- the sum
  unfold mAll oAll
  iapply (wp_load 𝒱₀ (c : Thread nD τ) none Set.univ (m := mM) (Finset.subset_univ _)) $$ Hm; iintro Hm
  rw [read_m]
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_o, wp_ret]; imodintro
  iapply Hk
  unfold Φ₁ mAll
  isplitl [Hp Hm HzI HzS HzV HzB]
  · isplitl [Hp]; · iexists _; iexact Hp
    isplitl [Hm]; · iexists _; iexact Hm
    isplitl [HzI]; · iexact HzI
    isplitl [HzS]; · iexact HzS
    isplitl [HzV] <;> iassumption
  isplitl [HO]; · unfold owing; iexact HO
  iexact Hout

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

abbrev tt : Fin cfg0.N := t0_0

def bodyPre (c : Dev nD) : sProp 𝕄 :=
  iprop((ghost m ρ K c ∗ creds c ∗ levAts L lv ∗ (∃ f, pAll c f) ∗ ∃ f, mAll c f)
    ∗ (dats m ρ 0 c).owesAt () tt.castSucc
    ∗ (∃ d, stg c cc0_stg0_0 ((dats m ρ 0 c).before (0 : Fin 5) tt d))
    ∗ (∃ d, stg c cc0_stg1_0 ((dats m ρ 0 c).before (1 : Fin 5) tt d))
    ∗ (∃ d, stg c cc0_stg2_0 ((dats m ρ 0 c).before (2 : Fin 5) tt d))
    ∗ (∃ d, stg c cc0_stg3_0 ((dats m ρ 0 c).before (3 : Fin 5) tt d))
    ∗ (∃ d, stg c cc0_stg4_0 ((dats m ρ 0 c).before (4 : Fin 5) tt d)))

def bodyPost (c : Dev nD) : sProp 𝕄 :=
  iprop(Φ₁ c ∗ (dats m ρ 0 c).owesAt () tt.succ ∗ stg c cc0_stg0_0 (xStg m ρ c) ∗ stg c cc0_stg1_0 (wStg m ρ c)
    ∗ stg c cc0_stg2_0 (iStg m ρ c) ∗ stg c cc0_stg3_0 (eStg m ρ c) ∗ stg c cc0_stg4_0 (outC m ρ c))

set_option maxHeartbeats 1600000 in
/-- The body, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ (bodyP (F := F)) Kt := by
  unfold bodyP
  dsimp only [Prog.lift, Prog.bind]
  rw [wp_deviceId]
  unfold bodyPre
  iintro ⟨⟨⟨Hg, Hc, #Hlev, ⟨%p0, Hp⟩, ⟨%m0, Hm⟩⟩, Ho, ⟨%d0, %g0, %hg0, Hx⟩, ⟨%d1, %g1, %hg1, Hw⟩, ⟨%d2, %g2, %hg2, Hi⟩, ⟨%d3, %g3, %hg3, He⟩, ⟨%d4, %g4, %hg4, Hout⟩⟩, Hk⟩
  have h0 : g0 = xStg m ρ c := by rw [hg0]; unfold Dat.before; rw [if_pos (fetch0_0 tt)]; rfl
  have h1 : g1 = wStg m ρ c := by rw [hg1]; unfold Dat.before; rw [if_pos (fetch0_1 tt)]; rfl
  have h2 : g2 = iStg m ρ c := by rw [hg2]; unfold Dat.before; rw [if_pos (fetch0_2 tt)]; rfl
  have h3 : g3 = eStg m ρ c := by rw [hg3]; unfold Dat.before; rw [if_pos (fetch0_3 tt)]; rfl
  subst h0 h1 h2 h3
  unfold Dat.owesAt Pipeline.owesWithin
  icases Ho with ⟨%W, %hW, HO⟩
  rw [show (dats m ρ 0 c).owed tt.castSucc = O₀ c from rfl]
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  unfold pAll
  iapply (wp_load 𝒱₀ (c : Thread nD τ) none Set.univ (m := pM) (Finset.subset_univ _)) $$ Hp; iintro Hp
  iapply (wp_store 𝒱₀ (c : Thread nD τ) none Set.univ (m := pM) (r := pR) (Mk := Finset.univ) (Finset.subset_univ _)) $$ Hp; iintro Hp
  rw [write_p]
  iapply (sound_tail m ρ K c m0 g4 Kt)
  isplitl [Hg Hc HO Hp Hm Hout]
  · isplitl [Hg]; · iexact Hg
    isplitl [Hc]; · iexact Hc
    isplitr; · iexact Hlev
    isplitl [HO]; · unfold owing; iexists W; iexact HO
    isplitl [Hp]; · unfold pAll part; iexact Hp
    isplitl [Hm]; · iexact Hm
    unfold oAll; iexact Hout
  iintro ⟨HΦ, HO, Hout⟩
  iapply Hk
  unfold bodyPost Dat.owesAt Pipeline.owesWithin owing oAll
  rw [show (dats m ρ 0 c).owed tt.succ = 0 from rfl]
  isplitl [HΦ]; · iexact HΦ
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists _; isplitr; · (ipureintro; rfl)
  iexact Hout

def bodyPre' (c : Dev nD) : sProp 𝕄 :=
  iprop(Φ₀ m ρ c ∗ (dats m ρ 0 c).owesAt () tt.castSucc
    ∗ (∃ d, stg c cc0_stg0_0 ((dats m ρ 0 c).before (0 : Fin 5) tt d))
    ∗ (∃ d, stg c cc0_stg1_0 ((dats m ρ 0 c).before (1 : Fin 5) tt d))
    ∗ (∃ d, stg c cc0_stg2_0 ((dats m ρ 0 c).before (2 : Fin 5) tt d))
    ∗ (∃ d, stg c cc0_stg3_0 ((dats m ρ 0 c).before (3 : Fin 5) tt d))
    ∗ (∃ d, stg c cc0_stg4_0 ((dats m ρ 0 c).before (4 : Fin 5) tt d)))

theorem after_0 (c : Dev nD) (t) : (dats m ρ 0 c).after (0 : Fin 5) t = xStg m ρ c := rfl
theorem after_1 (c : Dev nD) (t) : (dats m ρ 0 c).after (1 : Fin 5) t = wStg m ρ c := rfl
theorem after_2 (c : Dev nD) (t) : (dats m ρ 0 c).after (2 : Fin 5) t = iStg m ρ c := rfl
theorem after_3 (c : Dev nD) (t) : (dats m ρ 0 c).after (3 : Fin 5) t = eStg m ρ c := rfl
theorem after_4 (c : Dev nD) (t) : (dats m ρ 0 c).after (4 : Fin 5) t = outC m ρ c := rfl

set_option maxRecDepth 8000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show _ ⊢ wp frame (wpE (defs₀ (F := F)) 𝒱₀ (c : Thread nD τ) none) Set.univ
    (cc0_body (F := F) xM (Memref.isWhole_whole _) wM (Memref.isWhole_whole _) iM (Memref.isWhole_whole _) eM (Memref.isWhole_whole _)
      oM (Memref.isWhole_whole _) pM (Memref.isWhole_whole _) mM (Memref.isWhole_whole _) cc0_scratch2 cc0_scratch3) (fun _ => _)
  rw [body_eq]
  rw [after_0, after_1, after_2, after_3, after_4]
  show bodyPre' m ρ c ⊢ wp frame (wpE (defs₀ (F := F)) 𝒱₀ (c : Thread nD τ) none) Set.univ (bodyP (F := F)) (fun _ => bodyPost m ρ c)
  unfold bodyPre' Φ₀ start
  iintro ⟨⟨⟨⟨%K, Hg⟩, Hc, Hl⟩, Hp, Hm⟩, Ho, Hrest⟩
  iapply (sound_body m ρ K c fun _ => bodyPost m ρ c)
  unfold bodyPre
  isplitr []
  · isplitl [Hg Hc Hl Hp Hm]
    · isplitl [Hg]; · iexact Hg
      isplitl [Hc]; · iexact Hc
      isplitl [Hl]; · iexact Hl
      isplitl [Hp] <;> iassumption
    isplitl [Ho]; · iexact Ho
    iexact Hrest
  · iintro H; iexact H

end Body

end Cert.MoE

end
-- ==== Proof.Run.lean ====
/-
The launch of the exchange on the 32 devices, and the run of the kernel program.
-/
module

public import proofs.«01_k».proof.Proof.Body
public import Idealize.ShloMosaic.Lib.Pipeline.CollectiveSegs

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## The cells and tokens of the exchange, as the launch makes them -/

theorem csem_injective : Function.Injective csem := by decide +kernel
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def exCells : Finset (GSem nD τ sig) := Finset.univ.map ⟨kcell, kcell_injective⟩

/-- Which of a device's duties: raised barrier, sent copy, received copy, each by its step. -/
abbrev TK : Type := Fin 31 ⊕ (Fin 31 ⊕ Fin 31)
abbrev tokSem : TK → SemLoc sig × Fin 31 := fun
  | .inl i => (.reg barS, i) | .inr (.inl i) => (.dma (sendS i), 0) | .inr (.inr i) => (.dma (recvS i), 0)
theorem tokSem_injective : Function.Injective tokSem := by decide +kernel
abbrev tokOf (ck : Dev nD × TK) : GSem nD τ sig × ℕ × Fin 31 := (((ck.1 : Thread nD τ), (tokSem ck.2).1), 0, (tokSem ck.2).2)
theorem tokOf_injective : Function.Injective (tokOf : Dev nD × TK → GSem nD τ sig × ℕ × Fin 31) := by
  rintro ⟨c, k⟩ ⟨c', k'⟩ h
  have h1 : c = c' := congrArg (fun g : GSem nD τ sig × ℕ × Fin 31 => g.1.1.1) h
  have h2 : k = k' := tokSem_injective (Prod.ext (congrArg (fun g : GSem nD τ sig × ℕ × Fin 31 => g.1.2) h) (congrArg (fun g : GSem nD τ sig × ℕ × Fin 31 => g.2.2) h))
  rw [h1, h2]
def exToks : Finset (GSem nD τ sig × ℕ × Fin 31) := Finset.univ.map ⟨tokOf, tokOf_injective⟩

def u₀ : UU := (initOf (Pipeline.cells cfgs cellOf_inj) (Pipeline.launchToks cfgs cellOf_inj), initOf exCells exToks)

/-- The tokens of device `c`'s own cells. -/
def toks (c : Dev nD) : sProp 𝕄 :=
  iprop((bigSep Finset.univ fun i : Fin 31 => dutyTok ER (barCell c) 0 i)
    ∗ (bigSep Finset.univ fun i : Fin 31 => dutyTok ER (sendCell c i) 0 0)
    ∗ (bigSep Finset.univ fun i : Fin 31 => dutyTok ER (recvCell c i) 0 0))
/-- The tokens of the duties it pays. -/
def payToks (c : Dev nD) : sProp 𝕄 :=
  iprop((bigSep Finset.univ fun i : Fin 31 => dutyTok ER (barCell (tgt i c)) 0 i)
    ∗ (bigSep Finset.univ fun i : Fin 31 => dutyTok ER (sendCell c i) 0 0)
    ∗ (bigSep Finset.univ fun i : Fin 31 => dutyTok ER (recvCell (tgt i c) i) 0 0))

def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, ghost m ρ K c)

omit [FloatOps F] in
theorem bigSep_sum {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_sum, bigSep_sum]; rfl
  iintro HX
  imod (Rounds.fund ER (sched m ρ) exCells exToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : OK => semVal ((c : Thread nD τ), osem k) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_unit (Φ : Unit → sProp 𝕄) : bigSep Finset.univ Φ = Φ () := by
  rw [show (Finset.univ : Finset Unit) = {()} from rfl, bigSep_singleton]

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_sum (fun k : CK => (semVal (kcell (c, k)) 0 : sProp 𝕄)), bigSep_unit]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Device `c`'s positions and the tokens of the duties it pays. -/
def linear (c : Dev nD) : sProp 𝕄 := iprop((bigSep Finset.univ fun k : CK => atPos ER (kcell (c, k)) 0 ∅ 0) ∗ payToks c)

theorem ghost_intro (K : Dev nD × CK → ℕ) (c : Dev nD) : iprop(records m ρ K ∗ linear c) ⊢ G' m ρ c := by
  unfold linear payToks G' ghost
  rw [bigSep_sum, bigSep_unit, bigSep_sum, bigSep_sum]
  iintro ⟨#HR, ⟨HaB, HaI, HaS, HaV⟩, HtB, HtS, HtV⟩
  iexists K
  isplitr; · iexact HR
  isplitl [HaB]; · iexact HaB
  isplitl [HaI]; · iexact HaI
  isplitl [HaS]; · iexact HaS
  isplitl [HaV]; · iexact HaV
  isplitl [HtB]; · iexact HtB
  isplitl [HtS]; · iexact HtS
  iexact HtV

omit [FloatOps F] in
theorem bigSep_swap (Φ : Dev nD → Fin 31 → sProp 𝕄) :
    (bigSep Finset.univ fun c => bigSep Finset.univ fun i => Φ c i) = bigSep Finset.univ fun i => bigSep Finset.univ fun c => Φ c i :=
  (bigSep_univ_prod fun x : Dev nD × Fin 31 => Φ x.1 x.2).symm.trans
    ((bigSep_univ_equiv (Equiv.prodComm (Fin 31) (Dev nD)) fun x : Dev nD × Fin 31 => Φ x.1 x.2).trans
      (bigSep_univ_prod fun x : Fin 31 × Dev nD => Φ x.2 x.1))

omit [FloatOps F] in
/-- A family of tokens by step and device, each step's shifted around the mesh. -/
theorem shift (Φ : Fin 31 → Dev nD → sProp 𝕄) :
    (bigSep Finset.univ fun c : Dev nD => bigSep Finset.univ fun i : Fin 31 => Φ i c)
      = bigSep Finset.univ fun c : Dev nD => bigSep Finset.univ fun i : Fin 31 => Φ i (tgt i c) := by
  rw [bigSep_swap fun c i => Φ i c, bigSep_swap fun c i => Φ i (tgt i c)]
  exact bigSep_congr fun i _ => bigSep_univ_equiv (around i) (Φ i)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', shift (F := F) fun i c => dutyTok ER (barCell c) 0 i, shift (F := F) fun i c => dutyTok ER (recvCell c i) 0 0]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem recv_ne_bar (i : Fin 31) : SemLoc.dma (recvS i) ≠ SemLoc.reg barS := fun h => by cases h

theorem tgt_eq_iff (i : Fin 31) (c d : Dev nD) : c = tgt i d ↔ d = tgt i.rev c :=
  ⟨fun h => by rw [h, tgt_rev], fun h => by rw [h, tgt_rev']⟩

theorem sum_steps (f : Fin 31 → ℕ) : (steps.map f).sum = ∑ i, f i := by
  rw [← List.sum_toFinset f steps_nodup, steps_toFinset]

theorem recvS_inj {i j : Fin 31} (h : SemLoc.dma (recvS i) = SemLoc.dma (recvS j)) : i = j := by
  have := congrArg kindOf h
  rw [kind_recv, kind_recv] at this
  exact CellKind.recv.inj this

theorem owed_bar (d c : Dev nD) : O₀ d (barCell c) () = ∑ i : Fin 31, if d = tgt i.rev c then 1 else 0 := by
  have h0 : owedRecv d steps (barCell c) () = 0 := by
    by_contra h
    obtain ⟨i, hi⟩ := owedRecv_pos (Nat.pos_of_ne_zero h)
    exact recv_ne_bar i (congrArg Prod.snd hi).symm
  unfold O₀
  rw [Pi.add_apply, Finsupp.add_apply, h0, Nat.zero_add]
  unfold owedBar
  rw [sum_apply, sum_steps]
  refine Finset.sum_congr rfl fun i _ => ?_
  rw [tallyAt_apply]
  refine if_congr ⟨fun h => (tgt_eq_iff i c d).mp (congrArg (fun g : GSem nD τ sig => g.1.1) h.1), fun h => ⟨?_, rfl⟩⟩ rfl rfl
  rw [← (tgt_eq_iff i c d).mpr h]

theorem owed_recv (d c : Dev nD) (j : Fin 31) : O₀ d (recvCell c j) () = if d = tgt j.rev c then N else 0 := by
  have h0 : owedBar d steps (recvCell c j) () = 0 := by
    by_contra h
    obtain ⟨i, hi⟩ := owedBar_pos (Nat.pos_of_ne_zero h)
    exact recv_ne_bar j (congrArg Prod.snd hi)
  unfold O₀
  rw [Pi.add_apply, Finsupp.add_apply, h0, Nat.add_zero]
  unfold owedRecv
  rw [sum_apply, sum_steps, Finset.sum_eq_single j]
  · rw [tallyAt_apply]
    refine if_congr ⟨fun h => (tgt_eq_iff j c d).mp (congrArg (fun g : GSem nD τ sig => g.1.1) h.1), fun h => ⟨?_, rfl⟩⟩ rfl rfl
    rw [← (tgt_eq_iff j c d).mpr h]
  · intro i _ hij
    rw [tallyAt_apply, if_neg fun h => hij (recvS_inj (congrArg Prod.snd h.1)).symm]
  · exact fun h => absurd (Finset.mem_univ _) h

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun (i : Fin 31) _ => (Finset.sum_ite_eq' Finset.univ (tgt i.rev c) fun _ => 1).trans (if_pos (Finset.mem_univ _))]
  rfl

theorem launch_recv (c : Dev nD) (j : Fin 31) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (tgt j.rev c) fun _ => N,
    if_pos (Finset.mem_univ _)]

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  have hinj : Set.InjOn (fun i : Fin 31 => (SemLoc.dma (recvS i) : SemLoc sig)) (Finset.univ : Finset (Fin 31)) := fun i _ j _ h => recvS_inj h
  refine (bigSep_subset (t := Finset.univ.image fun i : Fin 31 => (SemLoc.dma (recvS i) : SemLoc sig)) fun x hx => ?_).trans ?_
  · obtain ⟨i, -, rfl⟩ := Finset.mem_image.mp hx
    exact Finset.mem_erase.mpr ⟨recv_ne_bar i, Finset.mem_univ _⟩
  · rw [bigSep_image_of_injOn hinj]
    exact Entails.of_eq (bigSep_congr fun i _ => congrArg _ (launch_recv c i))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ pAll mAll
  iintro ⟨Hs, -, Hp, Hm⟩
  isplitl [Hs]; · iexact Hs
  isplitl [Hp] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_sum, bigSep_sum]
  unfold Φ₁ pAll mAll
  iintro ⟨Hp, Hm, HzI, HzS, HzV, HzB⟩
  isplitl [HzB]; · iexact HzB
  isplitl [HzI HzS HzV]
  · isplitl [HzI]; · iexact HzI
    isplitl [HzS] <;> iassumption
  isplitl [Hp] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every fair run of the kernel program ends with each
    window's array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoE

end
-- ==== Proof.Frames.lean ====
/-
The frames: each program ends with its arguments unchanged and every counter at zero.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_routed_KernelIdeal
public import proofs.«01_k».proof.Proof.Gen.Pre_routed_ReferenceIdeal

@[expose] public section

noncomputable section

namespace Cert.MoE

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- What the run leaves in the four argument arrays is what was there. -/
theorem kept (r : PUnit × MemSt nD τ sig (Elt F)) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c (0 : Fin 5)).trans ((dats (F := F) m ρ 0 c).arrAt_in (0 : Fin 5) rfl _),
    (h c (1 : Fin 5)).trans ((dats (F := F) m ρ 0 c).arrAt_in (1 : Fin 5) rfl _),
    (h c (2 : Fin 5)).trans ((dats (F := F) m ρ 0 c).arrAt_in (2 : Fin 5) rfl _),
    (h c (3 : Fin 5)).trans ((dats (F := F) m ρ 0 c).arrAt_in (3 : Fin 5) rfl _)⟩

/-- For any float values: the run ends, the arguments as they were and every counter at zero. -/
theorem frame_any : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨kept m ρ r h.1, h.2⟩) (run_main m ρ)

section Twin

attribute [local instance] Cert.Kernel.Gen.facts

/-- The two printed programs have one text: their body tables agree. -/
theorem defs_twin : Cert.Kernel.defs (F := Bits) = Cert.KernelIdeal.defs (F := Bits) := by
  have h : Cert.Kernel.defs₀ (F := Bits) = Cert.KernelIdeal.defs₀ (F := Bits) := by
    unfold Cert.Kernel.defs₀ Cert.KernelIdeal.defs₀
    refine congrArg Defs.onTc ?_
    funext l a
    match l, a with
    | ⟨0, _⟩, (t, s) => rfl
  exact congrArg (Pipeline.defs Cert.KernelIdeal.pcfgs) h

end Twin

/-- The frame of the kernel on bit patterns, the idealized program's run read at bits. -/
theorem frame_kernel : Cert.quiescent_Kernel (hKernel := Cert.Kernel.Gen.facts) := fun m ρ _ =>
  Eq.mpr (congrArg (fun d => θ_run d (onTc (τ := τ) (main (F := Bits))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0)) defs_twin) (frame_any (F := Bits) m ρ)

/-- The frame of the idealized kernel. -/
theorem frame_ideal : Cert.quiescent_KernelIdeal (hKernelIdeal := Cert.KernelIdeal.Gen.facts) := fun m ρ _ => frame_any (F := Ideal) m ρ

/-- The same under the precondition, which it does not need. -/
theorem frame_ideal_pre : Cert.quiescent_KernelIdeal_pre_routed_KernelIdeal (hKernelIdeal := Cert.KernelIdeal.Gen.facts)
    (hPre_routed_KernelIdeal := Cert.Pre_routed_KernelIdeal.Gen.facts) := fun m ρ _ =>
  frame_ideal m ρ trivial

/-- The frame of the reference. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition, which it does not need. -/
theorem frame_ref_pre : Cert.quiescent_ReferenceIdeal_pre_routed_ReferenceIdeal (hReferenceIdeal := Cert.ReferenceIdeal.Gen.facts)
    (hPre_routed_ReferenceIdeal := Cert.Pre_routed_ReferenceIdeal.Gen.facts) := fun m ρ _ =>
  frame_ref m ρ trivial

end Cert.MoE

end
-- ==== Proof.Math.lean ====
/-
The mathematics of the gated mixture over the extended reals, free of either program: two gates out of a softmax, and
the sum over all 128 experts of which only the two routed ones count.
-/
module

public import Idealize.ShloMosaic.PureOps.Ideal
public import Idealize.ShloMosaic.PureOps.IdealRules

@[expose] public section

noncomputable section

namespace Cert.MoE

open Idealize.ShloMosaic

/-! ## Reals among the extended reals -/

/-- Neither infinity. -/
def Fin' (x : EReal) : Prop := ∃ r : ℝ, x = (r : EReal)

/-- The sum of reals, taken among the extended reals. -/
theorem coe_sum {n : ℕ} (g : Fin n → ℝ) : ((∑ k, g k : ℝ) : EReal) = ∑ k, (g k : EReal) := by
  induction n with
  | zero => simp
  | succ n ih => rw [Fin.sum_univ_succ, Fin.sum_univ_succ, EReal.coe_add, ih]

theorem fin_sum {n : ℕ} (f : Fin n → EReal) (h : ∀ k, Fin' (f k)) : Fin' (∑ k, f k) := by
  choose g hg using h
  refine ⟨∑ k, g k, ?_⟩
  rw [show f = fun k => (g k : EReal) from funext hg]
  exact (coe_sum g).symm

theorem fin_mul {x y : EReal} (hx : Fin' x) (hy : Fin' y) : Fin' (x * y) := by
  obtain ⟨a, rfl⟩ := hx; obtain ⟨b, rfl⟩ := hy
  exact ⟨a * b, (EReal.coe_mul a b).symm⟩

theorem fin_max {n : ℕ} (f : Fin n.succ → EReal) (h : ∀ k, Fin' (f k)) : Fin' (Finset.univ.fold max ⊥ f) := by
  have hne : (Finset.univ : Finset (Fin n.succ)).Nonempty := ⟨0, Finset.mem_univ _⟩
  rw [show Finset.univ.fold max ⊥ f = Finset.univ.sup f from rfl]
  obtain ⟨k, -, hk⟩ := Finset.exists_mem_eq_sup _ hne f
  rw [hk]; exact h k

/-- A softmax of real scores: every entry a positive real. -/
theorem soft_pos {n : ℕ} (s : Fin n.succ → EReal) (h : ∀ k, Fin' (s k)) (M : EReal) (hM : Fin' M) (e : Fin n.succ) :
    ∃ q : ℝ, 0 < q ∧ Ideal.div (Ideal.exp (s e - M)) (∑ k, Ideal.exp (s k - M)) = (q : EReal) := by
  obtain ⟨M, rfl⟩ := hM
  choose g hg using h
  have he : ∀ k, Ideal.exp (s k - M) = ((Real.exp (g k - M) : ℝ) : EReal) := fun k => by
    rw [hg, ← EReal.coe_sub]; rfl
  have hs : (∑ k, Ideal.exp (s k - M)) = ((∑ k, Real.exp (g k - M) : ℝ) : EReal) := by
    rw [show (fun k => Ideal.exp (s k - M)) = fun k => ((Real.exp (g k - M) : ℝ) : EReal) from funext he]
    exact (coe_sum _).symm
  have hp : 0 < ∑ k, Real.exp (g k - M) := Finset.sum_pos (fun k _ => Real.exp_pos _) ⟨0, Finset.mem_univ _⟩
  refine ⟨Real.exp (g e - M) * (∑ k, Real.exp (g k - M))⁻¹, mul_pos (Real.exp_pos _) (inv_pos.2 hp), ?_⟩
  rw [hs, he, Ideal.div, if_neg (by exact_mod_cast hp.ne'), EReal.coe_mul, EReal.coe_inv]

/-- The softmax of 128 scores, shifted by their maximum. -/
def softmax (s : Fin 128 → EReal) (e : Fin 128) : EReal :=
  Ideal.div (Ideal.exp (s e - Finset.univ.fold max (Ideal.ofBits .f32 0xFF800000#32) s))
    (∑ k, Ideal.exp (s k - Finset.univ.fold max (Ideal.ofBits .f32 0xFF800000#32) s))

theorem softmax_pos (s : Fin 128 → EReal) (h : ∀ k, Fin' (s k)) (e : Fin 128) : ∃ q : ℝ, 0 < q ∧ softmax s e = (q : EReal) := by
  have hb : Ideal.ofBits .f32 0xFF800000#32 = (⊥ : EReal) := by simp [Ideal.ofBits, Ideal.ieee]
  unfold softmax
  rw [hb]
  exact soft_pos s h _ (fin_max s h) e

/-! ## Sums over the experts -/

/-- A real factor that is not negative goes through a sum. -/
theorem mul_sum_real {n : ℕ} (w : ℝ) (hw : 0 ≤ w) (f : Fin n → EReal) : ∑ k, (w : EReal) * f k = (w : EReal) * ∑ k, f k := by
  induction n with
  | zero => simp
  | succ n ih =>
    rw [Fin.sum_univ_succ, Fin.sum_univ_succ, ih,
      EReal.left_distrib_of_nonneg_of_ne_top (by exact_mod_cast hw) (EReal.coe_ne_top _)]

/-- The weight of expert `E` for a token routed to `e0` and `e1`, with gates `g0` and `g1`. -/
def weight (e0 e1 : Fin 128) (g0 g1 : EReal) (E : Fin 128) : EReal :=
  Ideal.div ((if e0 = E then g0 else 0) + (if e1 = E then g1 else 0)) (g0 + g1)

/-- All 128 experts at their weights come to the two routed ones at their normalized gates. -/
theorem mixture (e0 e1 : Fin 128) (q0 q1 : ℝ) (h0 : 0 < q0) (h1 : 0 < q1) (x : Fin 256 → EReal) (W : Fin 128 → Fin 256 → EReal) :
    ∑ E, ∑ k, x k * weight e0 e1 q0 q1 E * W E k
      = Ideal.div q0 ((q0 : EReal) + q1) * (∑ k, x k * W e0 k) + Ideal.div q1 ((q0 : EReal) + q1) * (∑ k, x k * W e1 k) := by
  have hg : 0 < q0 + q1 := add_pos h0 h1
  have hd : ∀ r : ℝ, Ideal.div (r : EReal) ((q0 : EReal) + q1) = ((r * (q0 + q1)⁻¹ : ℝ) : EReal) := fun r => by
    rw [← EReal.coe_add, Ideal.div, if_neg (by exact_mod_cast hg.ne'), EReal.coe_mul, EReal.coe_inv]
  have hw : ∀ E, weight e0 e1 q0 q1 E
      = (((if e0 = E then q0 * (q0 + q1)⁻¹ else 0) + (if e1 = E then q1 * (q0 + q1)⁻¹ else 0) : ℝ) : EReal) := fun E => by
    unfold weight
    rw [show (if e0 = E then (q0 : EReal) else 0) + (if e1 = E then (q1 : EReal) else 0)
        = (((if e0 = E then q0 else 0) + (if e1 = E then q1 else 0) : ℝ) : EReal) from by
      rw [EReal.coe_add]; congr 1 <;> split <;> rfl, hd]
    congr 1
    rw [add_mul, ite_mul, ite_mul, zero_mul]
  have ha : ∀ (e : Fin 128) (r : ℝ) E, 0 < r → 0 ≤ (if e = E then r * (q0 + q1)⁻¹ else 0) := fun e r E hr => by
    split
    · exact (mul_pos hr (inv_pos.2 hg)).le
    · exact le_rfl
  have hE : ∀ E, ∑ k, x k * weight e0 e1 q0 q1 E * W E k
      = (if e0 = E then ((q0 * (q0 + q1)⁻¹ : ℝ) : EReal) * ∑ k, x k * W E k else 0)
        + (if e1 = E then ((q1 * (q0 + q1)⁻¹ : ℝ) : EReal) * ∑ k, x k * W E k else 0) := fun E => by
    rw [hw]
    rw [show (fun k => x k * (((if e0 = E then q0 * (q0 + q1)⁻¹ else 0) + (if e1 = E then q1 * (q0 + q1)⁻¹ else 0) : ℝ) : EReal) * W E k)
        = fun k => (((if e0 = E then q0 * (q0 + q1)⁻¹ else 0) + (if e1 = E then q1 * (q0 + q1)⁻¹ else 0) : ℝ) : EReal) * (x k * W E k) from
      funext fun k => by rw [mul_comm (x k), mul_assoc]]
    rw [mul_sum_real _ (add_nonneg (ha e0 q0 E h0) (ha e1 q1 E h1)), EReal.coe_add,
      EReal.right_distrib_of_nonneg (by exact_mod_cast ha e0 q0 E h0) (by exact_mod_cast ha e1 q1 E h1)]
    congr 1 <;> split <;> simp
  rw [Finset.sum_congr rfl fun E _ => hE E, Finset.sum_add_distrib, Finset.sum_ite_eq, Finset.sum_ite_eq,
    if_pos (Finset.mem_univ _), if_pos (Finset.mem_univ _), hd, hd]

/-- The sum over 32 devices and the four experts of each is the sum over the 128 experts. -/
theorem sum_experts (f : Fin 128 → EReal) :
    ∑ s : Fin 32, ((((0 + f ⟨4 * s.val + 0, by omega⟩) + f ⟨4 * s.val + 1, by omega⟩) + f ⟨4 * s.val + 2, by omega⟩) + f ⟨4 * s.val + 3, by omega⟩)
      = ∑ E, f E := by
  rw [← (finProdFinEquiv (m := 32) (n := 4)).sum_comp f, Fintype.sum_prod_type]
  refine Finset.sum_congr rfl fun s _ => ?_
  rw [Fin.sum_univ_four, zero_add]
  congr 1; congr 1; congr 1
  all_goals congr 1; apply Fin.ext; simp [finProdFinEquiv]; try omega

end Cert.MoE

end
-- ==== Proof.Acc.lean ====
/-
A device's partial product read at an index: four experts, each at the token's weight for it.
-/
module

public import proofs.«01_k».proof.Proof.Math
public import proofs.«01_k».proof.Proof.Loop
public import Idealize.ShloMosaic.Lib.Pointwise
public import Idealize.ShloMosaic.Lib.WordCmp

@[expose] public section

set_option maxRecDepth 16384

noncomputable section

namespace Cert.MoE

open Cert.KernelIdeal Cert.KernelIdeal.Gen
open Idealize.ShloMosaic

/-- The number of a device's expert `j`, as the body computes it. -/
theorem expertW (c : Dev nD) (j : Fin 4) :
    Scalar.addi (Scalar.muli (posW c) 4#32) (BitVec.ofNat 32 j.val) = BitVec.ofNat 32 (4 * c.val + j.val) := by
  revert c j; decide +kernel

/-- A choice by comparing two words that hold numbers of experts. -/
theorem select_expert (a b : Fin 128) (x y : EReal) :
    Scalar.select (IntOp.cmpi .eq (BitVec.ofNat 32 a.val) (BitVec.ofNat 32 b.val)) x y = if a = b then x else y := by
  rw [WordCmp.cmpi_eq_ofNat (by have := a.isLt; omega) (by have := b.isLt; omega), WordCmp.select_decide]
  simp only [Fin.ext_iff]

/-- Expert `j` of device `c`. -/
abbrev exp4 (c : Dev nD) (j : Fin 4) : Fin 128 := ⟨4 * c.val + j.val, by have := c.isLt; have := j.isLt; change c.val < 32 at *; omega⟩

variable (v3 : Vec Ideal S1024x256 .f32) (v5 : Vec Ideal S256x128 .f32) (v17 v19 : Vec Ideal S1024x1 .i32) (i : Fin 1024)

/-- The scores of a token. -/
def scores (e : Fin 128) : EReal := ∑ k : Fin 256, v3 (ix2 i k) * v5 (ix2 k e)

theorem pay3_apply (e : Fin 128) : k0_pay3 v3 v5 (ix2 i e) = softmax (scores v3 v5 i) e := by
  pointwise [k0_pay3, k0_pay2]
  rfl

/-- The sum of the row where the route's column is kept is that column's entry. -/
theorem pick (p : Fin 128 → EReal) (e : Fin 128) :
    (∑ x : Fin 128, Scalar.select (IntOp.cmpi .eq (BitVec.ofNat 32 x.val) (BitVec.ofNat 32 e.val)) (p x) 0) = p e := by
  rw [Finset.sum_congr rfl fun x _ => select_expert x e (p x) 0, Finset.sum_ite_eq' Finset.univ e p, if_pos (Finset.mem_univ _)]

theorem pay6_apply (e0 : Fin 128) (h : v17 (ix2 i (0 : Fin 1)) = BitVec.ofNat 32 e0.val) :
    k0_pay6 v3 v5 v17 (ix2 i (0 : Fin 1)) = softmax (scores v3 v5 i) e0 := by
  pointwise [k0_pay6, k0_pay4]
  simp only [pay3_apply, h]
  exact pick _ e0

theorem pay7_apply (e1 : Fin 128) (h : v19 (ix2 i (0 : Fin 1)) = BitVec.ofNat 32 e1.val) :
    k0_pay7 v3 v5 v19 (ix2 i (0 : Fin 1)) = softmax (scores v3 v5 i) e1 := by
  pointwise [k0_pay7, k0_pay5]
  simp only [pay3_apply, h]
  exact pick _ e1

/-- What one expert adds for a token in a column. -/
def term (e0 e1 E : Fin 128) (w : Vec Ideal S1x256x512 .f32) (h : Fin 512) : EReal :=
  ∑ k : Fin 256, v3 (ix2 i k) * weight e0 e1 (softmax (scores v3 v5 i) e0) (softmax (scores v3 v5 i) e1) E * w (ix3 (0 : Fin 1) k h)

theorem acc_apply (c : Dev nD) (e0 e1 : Fin 128) (h0 : v17 (ix2 i (0 : Fin 1)) = BitVec.ofNat 32 e0.val)
    (h1 : v19 (ix2 i (0 : Fin 1)) = BitVec.ofNat 32 e1.val) (w0 w1 w2 w3 : Vec Ideal S1x256x512 .f32) (h : Fin 512) :
    accOf c v3 v5 v17 v19 w0 w1 w2 w3 (ix2 i h)
      = (((0 + term v3 v5 i e0 e1 (exp4 c 0) w0 h) + term v3 v5 i e0 e1 (exp4 c 1) w1 h) + term v3 v5 i e0 e1 (exp4 c 2) w2 h)
        + term v3 v5 i e0 e1 (exp4 c 3) w3 h := by
  pointwise [accOf, k0_pay15, k0_pay11, k0_pay12, k0_pay13, k0_pay14, k0_pay10, k0_pay9, k0_pay8, k0_pay2, k0_pay4, k0_pay5]
  have hw := expertW c
  have k0 : Scalar.addi (Scalar.muli (posW c) 4#32) 0#32 = BitVec.ofNat 32 (exp4 c 0).val := hw 0
  have k1 : Scalar.addi (Scalar.muli (posW c) 4#32) 1#32 = BitVec.ofNat 32 (exp4 c 1).val := hw 1
  have k2 : Scalar.addi (Scalar.muli (posW c) 4#32) 2#32 = BitVec.ofNat 32 (exp4 c 2).val := hw 2
  have k3 : Scalar.addi (Scalar.muli (posW c) 4#32) 3#32 = BitVec.ofNat 32 (exp4 c 3).val := hw 3
  have k0' : Scalar.addi (Scalar.muli (Scalar.remsi (Scalar.divsi c.word 1#32) 32#32) 4#32) 0#32 = BitVec.ofNat 32 (exp4 c 0).val := k0
  have s0 : ∀ (j : Fin 4) (x y : EReal), Scalar.select (IntOp.cmpi .eq (BitVec.ofNat 32 e0.val) (BitVec.ofNat 32 (4 * c.val + j.val))) x y
      = if e0 = exp4 c j then x else y := fun j => select_expert e0 (exp4 c j)
  have s1 : ∀ (j : Fin 4) (x y : EReal), Scalar.select (IntOp.cmpi .eq (BitVec.ofNat 32 e1.val) (BitVec.ofNat 32 (4 * c.val + j.val))) x y
      = if e1 = exp4 c j then x else y := fun j => select_expert e1 (exp4 c j)
  simp only [k0', k0, k1, k2, k3, h0, h1, pay6_apply v3 v5 v17 i e0 h0, pay7_apply v3 v5 v19 i e1 h1, s0, s1, term, weight, zero_add]

end Cert.MoE

end
-- ==== Proof.Kern.lean ====
/-
The result of the kernel on the 32 devices at an index: the sum over all 128 experts.
-/
module

public import proofs.«01_k».proof.Proof.Acc
public import proofs.«01_k».proof.Proof.Run
public import Idealize.ShloMosaic.Lib.Layout
public import Idealize.ShloMosaic.Lib.LayoutAt
public import Idealize.ShloMosaic.Lib.VecWindow

@[expose] public section

set_option maxRecDepth 16384

noncomputable section

namespace Cert.MoE

open Cert.KernelIdeal Cert.KernelIdeal.Gen
open Idealize.ShloMosaic
open Idealize.ShloMosaic.TcCoe
open Idealize.SL Idealize.SL.Sem

variable (m : (ℓ : Loc nD τ sig) → Buf (Elt Ideal) ℓ) (ρ : Dev nD → PrngReg)

/-- The 128 experts in 32 blocks of four. -/
theorem tilesW : Layout.Tiles ⟨3, ![4, 256, 512]⟩ ⟨3, ![128, 256, 512]⟩ 0 32 := by decide

theorem xStg_eq (c : Dev nD) : xStg m ρ c = m ((c : Thread nD τ).loc main_arg0) :=
  Memref.read_access_unit_zero (Elt Ideal) main_arg0 (off := fun a => win0_0.index (0 : Fin 1) a * main_arg0.ty.shape.size a)
    (by funext a; fin_cases a <;> rfl) (fun a => by fin_cases a <;> decide) _
theorem wStg_eq (c : Dev nD) : wStg m ρ c = m ((c : Thread nD τ).loc main_arg1) :=
  Memref.read_access_unit_zero (Elt Ideal) main_arg1 (off := fun a => win0_1.index (0 : Fin 1) a * main_arg1.ty.shape.size a)
    (by funext a; fin_cases a <;> rfl) (fun a => by fin_cases a <;> decide) _
theorem iStg_eq (c : Dev nD) : iStg m ρ c = m ((c : Thread nD τ).loc main_arg2) :=
  Memref.read_access_unit_zero (Elt Ideal) main_arg2 (off := fun a => win0_2.index (0 : Fin 1) a * main_arg2.ty.shape.size a)
    (by funext a; fin_cases a <;> rfl) (fun a => by fin_cases a <;> decide) _
theorem eStg_eq (c : Dev nD) : eStg m ρ c = m ((c : Thread nD τ).loc main_arg3) :=
  Memref.read_access_unit_zero (Elt Ideal) main_arg3 (off := fun a => win0_3.index (0 : Fin 1) a * main_arg3.ty.shape.size a)
    (by funext a; fin_cases a <;> rfl) (fun a => by fin_cases a <;> decide) _

theorem hz2' : (![0, 0] : Fin 2 → ℕ) = fun _ => 0 := by funext a; fin_cases a <;> rfl

theorem read_x (f : (cc0_stg0_0 : Ref sig .tc).ty.Contents (Elt Ideal)) : xM.view.readAt (Elt Ideal) xR.toLoadRect f = f :=
  Memref.readAt_unit_zero (Elt Ideal) cc0_stg0_0 hz2' _ f
theorem read_w (f : (cc0_stg1_0 : Ref sig .tc).ty.Contents (Elt Ideal)) : wM.view.readAt (Elt Ideal) wR.toLoadRect f = f :=
  Memref.readAt_unit_zero (Elt Ideal) cc0_stg1_0 hz2' _ f

/-- A load of one column of the routes. -/
theorem read_i (j : Fin 2) (inb : ∀ a, (![0, j.val] : Fin 2 → ℕ) a + S1024x1.size a ≤ S1024x2.size a)
    (f : (cc0_stg2_0 : Ref sig .tc).ty.Contents (Elt Ideal)) (i : Fin 1024) :
    iM.view.readAt (Elt Ideal) (Rect.unit (s := S1024x2) ![0, j.val] S1024x1.size inb).toLoadRect f (ix2 i (0 : Fin 1)) = f (ix2 i j) :=
  congrArg f (funext fun a => Fin.ext (by
    fin_cases a
    · show 0 + 1 * i.val = i.val; omega
    · show j.val + 1 * 0 = j.val; omega))

/-- A load of one expert of the device's four. -/
theorem read_e (j : Fin 4) (inb : ∀ a, (![j.val, 0, 0] : Fin 3 → ℕ) a + S1x256x512.size a ≤ S4x256x512.size a)
    (f : (cc0_stg3_0 : Ref sig .tc).ty.Contents (Elt Ideal)) (k : Fin 256) (h : Fin 512) :
    eM.view.readAt (Elt Ideal) (Rect.unit (s := S4x256x512) ![j.val, 0, 0] S1x256x512.size inb).toLoadRect f (ix3 (0 : Fin 1) k h) = f (ix3 j k h) :=
  congrArg f (funext fun a => Fin.ext (by
    fin_cases a
    · show j.val + 1 * 0 = j.val; omega
    · show 0 + 1 * k.val = k.val; omega
    · show 0 + 1 * h.val = h.val; omega))

variable (X : (⟨S1024x256, .f32⟩ : BufTy).Contents (Elt Ideal)) (R : (⟨S256x128, .f32⟩ : BufTy).Contents (Elt Ideal))
  (I : (⟨S1024x2, .i32⟩ : BufTy).Contents (Elt Ideal)) (W : (⟨⟨3, ![128, 256, 512]⟩, .f32⟩ : BufTy).Contents (Elt Ideal))
  (hX : ∀ c : Dev nD, m ((c : Thread nD τ).loc main_arg0) = X) (hR : ∀ c : Dev nD, m ((c : Thread nD τ).loc main_arg1) = R)
  (hI : ∀ c : Dev nD, m ((c : Thread nD τ).loc main_arg2) = I)
  (hW : ∀ c : Dev nD, m ((c : Thread nD τ).loc main_arg3) = Layout.block ⟨3, ![4, 256, 512]⟩ ⟨3, ![128, 256, 512]⟩ 0 32 c W tilesW)
  (i : Fin 1024) (e0 e1 : Fin 128) (h0 : I (ix2 i (0 : Fin 2)) = BitVec.ofNat 32 e0.val) (h1 : I (ix2 i (1 : Fin 2)) = BitVec.ofNat 32 e1.val)
  (h : Fin 512)

/-- What expert `E` adds to a token's result in a column. -/
def share (E : Fin 128) : EReal :=
  ∑ k : Fin 256, X (ix2 i k) * weight e0 e1 (softmax (scores X R i) e0) (softmax (scores X R i) e1) E * W (ix3 E k h)

include hW in
/-- The device's expert `j` is expert `4c + j` of the whole. -/
theorem expert_at (c : Dev nD) (j : Fin 4) (k : Fin 256) : m ((c : Thread nD τ).loc main_arg3) (ix3 j k h) = W (ix3 (exp4 c j) k h) := by
  rw [hW c, Layout.block_apply]
  refine congrArg W (funext fun a => Fin.ext ?_)
  rw [Layout.Tiles.idx_val]
  fin_cases a
  · show c.val * 4 + j.val = 4 * c.val + j.val; omega
  · rfl
  · rfl

include hW in
theorem term_share (c : Dev nD) (j : Fin 4) (inb : ∀ a, (![j.val, 0, 0] : Fin 3 → ℕ) a + S1x256x512.size a ≤ S4x256x512.size a) :
    term X R i e0 e1 (exp4 c j) (eM.view.readAt (Elt Ideal) (Rect.unit (s := S4x256x512) ![j.val, 0, 0] S1x256x512.size inb).toLoadRect (eStg m ρ c)) h
      = share X R W i e0 e1 h (exp4 c j) :=
  Finset.sum_congr rfl fun k _ => congrArg (X (ix2 i k) * weight e0 e1 (softmax (scores X R i) e0) (softmax (scores X R i) e1) (exp4 c j) * ·) (by
    rw [read_e j inb, eStg_eq]; exact expert_at m W hW h c j k)

include hX hR hI hW h0 h1 in
theorem part_apply (c : Dev nD) : part m ρ c (ix2 i h)
    = (((0 + share X R W i e0 e1 h (exp4 c 0)) + share X R W i e0 e1 h (exp4 c 1)) + share X R W i e0 e1 h (exp4 c 2)) + share X R W i e0 e1 h (exp4 c 3) := by
  unfold part
  rw [read_x, read_w, xStg_eq, wStg_eq, hX, hR]
  have g0 : iM.view.readAt (Elt Ideal) i0R.toLoadRect (iStg m ρ c) (ix2 i (0 : Fin 1)) = BitVec.ofNat 32 e0.val := by
    refine (read_i 0 inb_S1024x2_S1024x1_0_0 (iStg m ρ c) i).trans ?_
    rw [iStg_eq, hI]; exact h0
  have g1 : iM.view.readAt (Elt Ideal) i1R.toLoadRect (iStg m ρ c) (ix2 i (0 : Fin 1)) = BitVec.ofNat 32 e1.val := by
    refine (read_i 1 inb_S1024x2_S1024x1_0_1 (iStg m ρ c) i).trans ?_
    rw [iStg_eq, hI]; exact h1
  refine (acc_apply X R _ _ i c e0 e1 g0 g1 _ _ _ _ h).trans ?_
  have t := term_share m ρ X R W hW i e0 e1 h c
  exact congr (congrArg HAdd.hAdd (congr (congrArg HAdd.hAdd (congr (congrArg HAdd.hAdd (congrArg (0 + ·)
    (t 0 inb_S4x256x512_S1x256x512_0_0_0))) (t 1 inb_S4x256x512_S1x256x512_1_0_0))) (t 2 inb_S4x256x512_S1x256x512_2_0_0)))
    (t 3 inb_S4x256x512_S1x256x512_3_0_0)

theorem back_injective (t : Dev nD) : Function.Injective (fun e : Fin 32 => back e t) := by
  revert t; decide +kernel

theorem back_bijective (t : Dev nD) : Function.Bijective (fun e : Fin 32 => (back e t : Fin 32)) :=
  Finite.injective_iff_bijective.mp (back_injective t)

/-- The row of the whole result that is row `r` of device `c`. -/
def row (c : Dev nD) (r : Fin 32) : Fin 1024 := ⟨32 * c.val + r.val, by have h : c.val < 32 := c.isLt; omega⟩

end Cert.MoE

namespace Cert.MoE

open Cert.KernelIdeal Cert.KernelIdeal.Gen
open Idealize.ShloMosaic
open Idealize.ShloMosaic.TcCoe
open Idealize.SL Idealize.SL.Sem

variable (m : (ℓ : Loc nD τ sig) → Buf (Elt Ideal) ℓ) (ρ : Dev nD → PrngReg)

theorem pay1_apply (v : Vec Ideal S32x32x512 .f32) (r : Fin 32) (h : Fin 512) : k0_pay1 v (ix2 r h) = ∑ e : Fin 32, v (ix3 e r h) := by
  pointwise [k0_pay1]

/-- A device's result, as values. -/
abbrev outV (c : Dev nD) : FVec Ideal S32x512 .f32 := outC m ρ c

/-- A device's result sums the 32 devices' partial products of its rows. -/
theorem out_parts (c : Dev nD) (r : Fin 32) (h : Fin 512) :
    outV m ρ c (ix2 r h) = ∑ s : Fin 32, part (F := Ideal) m ρ (s : Dev nD) (ix2 (row c r) h) :=
  (pay1_apply (gathered m ρ c) r h).trans
    ((back_bijective c).sum_comp (fun s : Fin 32 => part (F := Ideal) m ρ (s : Dev nD) (ix2 (row c r) h)))

variable (X : (⟨S1024x256, .f32⟩ : BufTy).Contents (Elt Ideal)) (R : (⟨S256x128, .f32⟩ : BufTy).Contents (Elt Ideal))
  (I : (⟨S1024x2, .i32⟩ : BufTy).Contents (Elt Ideal)) (W : (⟨⟨3, ![128, 256, 512]⟩, .f32⟩ : BufTy).Contents (Elt Ideal))
  (hX : ∀ c : Dev nD, m ((c : Thread nD τ).loc main_arg0) = X) (hR : ∀ c : Dev nD, m ((c : Thread nD τ).loc main_arg1) = R)
  (hI : ∀ c : Dev nD, m ((c : Thread nD τ).loc main_arg2) = I)
  (hW : ∀ c : Dev nD, m ((c : Thread nD τ).loc main_arg3) = Layout.block ⟨3, ![4, 256, 512]⟩ ⟨3, ![128, 256, 512]⟩ 0 32 c W tilesW)

include hX hR hI hW in
/-- A device's result at an index sums every expert at the token's weight for it. -/
theorem out_apply (c : Dev nD) (r : Fin 32) (h : Fin 512) (e0 e1 : Fin 128)
    (h0 : I (ix2 (row c r) (0 : Fin 2)) = BitVec.ofNat 32 e0.val) (h1 : I (ix2 (row c r) (1 : Fin 2)) = BitVec.ofNat 32 e1.val) :
    outV m ρ c (ix2 r h) = ∑ E, share X R W (row c r) e0 e1 h E := by
  refine (out_parts m ρ c r h).trans ?_
  rw [← sum_experts]
  exact Finset.sum_congr rfl fun s _ => part_apply m ρ X R I W hX hR hI hW (row c r) e0 e1 h0 h1 h s

/-- The result array after the run is the device's result. -/
theorem finalA_out (c : Dev nD) : finalA m ρ c 4 = outC m ρ c := by
  have e : (win0_4.blk (0 : Fin 1)).view.read (Elt Ideal) (finalA m ρ c 4) = outC m ρ c := by
    unfold finalA
    rw [show cfg0.N = ((0 : Fin 1) : Fin cfg0.N).val + 1 from rfl, (dats m ρ 0 c).arrAt_succ (4 : Fin 5) (0 : Fin 1)]
    rw [show (cfg0.win 4).flush (0 : Fin 1) = true from by decide, if_pos rfl]
    exact View.read_write_univ _ _
  rw [← e]
  exact (Memref.read_access_unit_zero (Elt Ideal) main_v1 (off := fun a => win0_4.index (0 : Fin 1) a * main_v1.ty.shape.size a)
    (by funext a; fin_cases a <;> rfl) (fun a => by fin_cases a <;> decide) _).symm

end Cert.MoE

end
-- ==== Proof.Ref.lean ====
/-
The reference's result read at an index: the two gathered gates, their quotient, and the two gathered expert products.
-/
module

public import proofs.«01_k».proof.Proof.Math
public import proofs.«01_k».proof.Proof.Gen.ReferenceIdeal.Read
public import Idealize.ShloMosaic.Lib.Pointwise
public import Idealize.ShloMosaic.Lib.Routing.OpsPair

@[expose] public section

set_option maxRecDepth 16384

noncomputable section

namespace Cert.MoERef

open Cert.ReferenceIdeal Cert.ReferenceIdeal.Gen Cert.ReferenceIdeal.Read
open Idealize.ShloMosaic

/-- A word that holds a small number, read signed. -/
theorem toInt_small (n : ℕ) (h : n < 1024) : (BitVec.ofNat 32 n).toInt.toNat = n := by
  rw [StableHlo.Predicate.toInt_ofNat_small _ (by omega)]; omega

/-- The dimension numbers of the gathered gates and of the gathered expert matrices. -/
abbrev dG : GatherDims S1024x128 S1024x2 S1024 := gather_S1024x128_S1024x2_S1024_n_01_n_n_01_1_11
abbrev dE : GatherDims S128x256x512 S1024x1 S1024x256x512 := gather_S128x256x512_S1024x1_S1024x256x512_12_0_n_n_0_1_1256512

theorem dG_start {w : Nat} (idx : IVec S1024x2 w) (i : Fin 1024) (c : Fin 2) (hc : c ∈ dG.startIndexMap) :
    dG.start (ix1 i) idx c = min (idx (ix2 i c)).toInt.toNat (S1024x128.size c - dG.sliceSizes c) := by
  unfold GatherDims.start
  rw [dif_pos hc]
  congr 3
  congr 1
  funext b; refine Fin.ext ?_
  match c, b with
  | ⟨0, _⟩, ⟨0, _⟩ => rfl
  | ⟨0, _⟩, ⟨1, _⟩ => rfl
  | ⟨1, _⟩, ⟨0, _⟩ => rfl
  | ⟨1, _⟩, ⟨1, _⟩ => rfl

/-- The gather of one entry per row, at a row and a column that are in range. -/
theorem gather_pair {α : Type} (x : S1024x128.Idx → α) (idx : IVec S1024x2 32) (i a : Fin 1024) (b : Fin 128)
    (h0 : idx (ix2 i (0 : Fin 2)) = BitVec.ofNat 32 a.val) (h1 : idx (ix2 i (1 : Fin 2)) = BitVec.ofNat 32 b.val) :
    Host.gather dG x idx (ix1 i) = x (ix2 a b) := by
  have hall : ∀ c : Fin 2, c ∈ [(0 : Fin 2), 1] := by decide
  unfold Host.gather
  refine congrArg x (funext fun c => Fin.ext ?_)
  show dG.start (ix1 i) idx c + dG.batchCoord (ix1 i) c + dG.offCoord (ix1 i) c = _
  rw [GatherDims.batchCoord_eq_zero _ _ _ List.not_mem_nil,
    GatherDims.offCoord_eq_zero _ _ _ (fun h => ((GatherDims.mem_sKept _ _).mp h).1 (hall c)), Nat.add_zero,
    dG_start idx i c (hall c)]
  match c with
  | ⟨0, _⟩ =>
    show min (idx (ix2 i (0 : Fin 2))).toInt.toNat (1024 - 1) = a.val
    rw [h0, toInt_small _ a.isLt]; have := a.isLt; omega
  | ⟨1, _⟩ =>
    show min (idx (ix2 i (1 : Fin 2))).toInt.toNat (128 - 1) = b.val
    have := b.isLt
    rw [h1, toInt_small _ (by omega)]; omega

theorem dE_start {w : Nat} (idx : IVec S1024x1 w) (i : Fin 1024) (k : Fin 256) (h : Fin 512) :
    dE.start (ix3 i k h) idx (0 : Fin 3) = min (idx (ix2 i (0 : Fin 1))).toInt.toNat (128 - 1) := by
  unfold GatherDims.start
  rw [dif_pos (show (0 : Fin 3) ∈ dE.startIndexMap from List.mem_cons_self)]
  show min (idx _).toInt.toNat (128 - 1) = _
  congr 3
  congr 1
  funext b; refine Fin.ext ?_
  match b with
  | ⟨0, _⟩ => rfl
  | ⟨1, _⟩ => rfl

/-- The gather of an expert's whole matrix per row, at an expert that is in range. -/
theorem gather_expert {α : Type} (x : S128x256x512.Idx → α) (idx : IVec S1024x1 32) (i : Fin 1024) (e : Fin 128) (k : Fin 256) (h : Fin 512)
    (h0 : idx (ix2 i (0 : Fin 1)) = BitVec.ofNat 32 e.val) : Host.gather dE x idx (ix3 i k h) = x (ix3 e k h) := by
  unfold Host.gather
  refine congrArg x (funext fun c => Fin.ext ?_)
  show dE.start (ix3 i k h) idx c + dE.batchCoord (ix3 i k h) c + dE.offCoord (ix3 i k h) c = _
  rw [GatherDims.batchCoord_eq_zero _ _ _ List.not_mem_nil, Nat.add_zero]
  have h3 : c = (0 : Fin 3) ∨ c = (1 : Fin 3) ∨ c = (2 : Fin 3) := by
    have : ∀ c : Fin 3, c = 0 ∨ c = 1 ∨ c = 2 := by decide
    exact this c
  rcases h3 with rfl | rfl | rfl
  · rw [GatherDims.offCoord_eq_zero _ _ _ (fun h => ((GatherDims.mem_sKept _ _).mp h).1 (List.mem_singleton.mpr rfl)), Nat.add_zero,
      dE_start idx i k h, h0]
    have := e.isLt
    rw [toInt_small _ (by omega)]
    show min e.val (128 - 1) = e.val
    omega
  · unfold GatherDims.start
    rw [dif_neg (show (1 : Fin 3) ∉ dE.startIndexMap from by decide), Nat.zero_add]
    rfl
  · unfold GatherDims.start
    rw [dif_neg (show (2 : Fin 3) ∉ dE.startIndexMap from by decide), Nat.zero_add]
    rfl

variable (x0 : (⟨S1024x256, .f32⟩ : BufTy).Contents (Elt Ideal)) (x1 : (⟨S256x128, .f32⟩ : BufTy).Contents (Elt Ideal))
  (x2 : (⟨S1024x2, .i32⟩ : BufTy).Contents (Elt Ideal)) (x3 : (⟨S128x256x512, .f32⟩ : BufTy).Contents (Elt Ideal))

/-- The score of an expert for a token, and the softmax of a token's scores. -/
def score (i : Fin 1024) (e : Fin 128) : EReal := ∑ k : Fin 256, x0 (ix2 i k) * x1 (ix2 k e)
def prob (i : Fin 1024) : Fin 128 → EReal := MoE.softmax (score x0 x1 i)

theorem prob_eq (i : Fin 1024) (e : Fin 128) : val_main_v9 (F := Ideal) x0 x1 (ix2 i e) = prob x0 x1 i e := by
  pointwise [val_main_v9, val_main_v8, val_main_v7, val_main_v6, val_main_v5, val_main_v4, val_main_v3, val_main_v2, val_main_v1, val_main_v0, val_main_cst, val_main_cst_0]
  rfl

/-- A word that holds a number below 1024 is not wrapped. -/
theorem wrap_small (n : ℕ) (h : n < 1024) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

variable (i : Fin 1024) (e0 e1 : Fin 128) (h0 : x2 (ix2 i (0 : Fin 2)) = BitVec.ofNat 32 e0.val) (h1 : x2 (ix2 i (1 : Fin 2)) = BitVec.ofNat 32 e1.val)
include h0

theorem gate0 : val_main_v28 (F := Ideal) x0 x1 x2 (ix1 i) = prob x0 x1 i e0 := by
  unfold val_main_v28
  rw [gather_pair _ _ i i e0, prob_eq]
  · pointwise [val_main_v27, val_main_v25, val_main_v19, val_main_v16, val_main_v18, val_main_v15, val_main_v17, val_main_v14, val_main_c, val_main_c_1]
    exact wrap_small _ i.isLt _
  · pointwise [val_main_v27, val_main_v26, val_main_v24, val_main_v21, val_main_v23, val_main_v20, val_main_v22, val_main_v11, val_main_v10, val_main_c_2, val_main_c_3]
    rw [h0]; exact wrap_small _ (by omega) _

theorem expert0 (k : Fin 256) (h : Fin 512) : val_main_v50 (F := Ideal) x2 x3 (ix3 i k h) = x3 (ix3 e0 k h) := by
  unfold val_main_v50
  rw [gather_expert _ _ i e0]
  pointwise [val_main_v49, val_main_v48, val_main_v47, val_main_v46, val_main_v45, val_main_v44, val_main_v11, val_main_v10, val_main_c_8, val_main_c_9]
  rw [h0]; exact wrap_small _ (by omega) _

omit h0
include h1

theorem gate1 : val_main_v42 (F := Ideal) x0 x1 x2 (ix1 i) = prob x0 x1 i e1 := by
  unfold val_main_v42
  rw [gather_pair _ _ i i e1, prob_eq]
  · pointwise [val_main_v41, val_main_v39, val_main_v33, val_main_v30, val_main_v32, val_main_v29, val_main_v31, val_main_v14, val_main_c_4, val_main_c_5]
    exact wrap_small _ i.isLt _
  · pointwise [val_main_v41, val_main_v40, val_main_v38, val_main_v35, val_main_v37, val_main_v34, val_main_v36, val_main_v13, val_main_v12, val_main_c_6, val_main_c_7]
    rw [h1]; exact wrap_small _ (by omega) _

theorem expert1 (k : Fin 256) (h : Fin 512) : val_main_v58 (F := Ideal) x2 x3 (ix3 i k h) = x3 (ix3 e1 k h) := by
  unfold val_main_v58
  rw [gather_expert _ _ i e1]
  pointwise [val_main_v57, val_main_v56, val_main_v55, val_main_v54, val_main_v53, val_main_v52, val_main_v13, val_main_v12, val_main_c_10, val_main_c_11]
  rw [h1]; exact wrap_small _ (by omega) _

include h0

/-- The reference's result: the two routed experts at their normalized gates. -/
theorem ref_apply (h : Fin 512) : val_main_v68 (F := Ideal) x0 x1 x2 x3 (ix2 i h)
    = Ideal.div (prob x0 x1 i e0) (prob x0 x1 i e0 + prob x0 x1 i e1) * (∑ k : Fin 256, x0 (ix2 i k) * x3 (ix3 e0 k h))
      + Ideal.div (prob x0 x1 i e1) (prob x0 x1 i e0 + prob x0 x1 i e1) * (∑ k : Fin 256, x0 (ix2 i k) * x3 (ix3 e1 k h)) := by
  pointwise [val_main_v68, val_main_v67, val_main_v66, val_main_v65, val_main_v64, val_main_v63, val_main_v62, val_main_v61, val_main_v60, val_main_v59, val_main_v51, val_main_v43]
  rw [gate0 x0 x1 x2 i e0 h0, gate1 x0 x1 x2 i e1 h1]
  simp only [expert0 x2 x3 i e0 h0, expert1 x2 x3 i e1 h1]

end Cert.MoERef

end
-- ==== Proof.Route.lean ====
/-
What the precondition says: every route is one of the 128 experts, and the tokens and the router's weights are real numbers.
-/
module

public import proofs.«01_k».proof.Proof.Math
public import proofs.«01_k».proof.Proof.Gen.Pre_routed_KernelIdeal
public import Idealize.ShloMosaic.Lib.ReduceAll
public import Idealize.ShloMosaic.Lib.Pointwise
public import Idealize.ShloMosaic.Lib.StableHlo.Predicate

@[expose] public section

set_option maxRecDepth 16384

noncomputable section

namespace Cert.MoE

open Cert.Pre_routed_KernelIdeal
open Idealize.ShloMosaic

/-- A number whose magnitude is below infinity is real. -/
theorem fin_of_abs (x : EReal) (h : FloatOps.cmpf (F := Ideal) (φ := .f32) .olt (FloatOps.hostAbsf (F := Ideal) (φ := .f32) x) (Ideal.ofBits .f32 0x7F800000#32) = 1#1) :
    Fin' x := by
  have ht : Ideal.ofBits .f32 0x7F800000#32 = (⊤ : EReal) := by simp [Ideal.ofBits, Ideal.ieee]
  rw [ht] at h
  have h' : max x (-x) < ⊤ := of_decide_eq_true ((StableHlo.Predicate.ofBool_eq_one_iff _).mp h)
  rw [max_lt_iff] at h'
  refine ⟨x.toReal, (EReal.coe_toReal h'.1.ne ?_).symm⟩
  rintro rfl
  simp at h'

/-- A word between 0 and 127 names an expert. -/
theorem expert_of_range (w : BitVec 32) (h0 : IntOp.cmpi .sge w 0#32 = 1#1) (h1 : IntOp.cmpi .slt w 128#32 = 1#1) :
    ∃ e : Fin 128, w = BitVec.ofNat 32 e.val := by
  have a : (0#32).sle w = true := by
    simpa [IntOp.cmpi, StableHlo.Predicate.ofBool_eq_one_iff] using h0
  have b : w.slt 128#32 = true := by
    simpa [IntOp.cmpi, StableHlo.Predicate.ofBool_eq_one_iff] using h1
  have hlt : w.toNat < 128 := by
    rw [BitVec.sle_eq_decide, decide_eq_true_eq] at a
    rw [BitVec.slt_eq_decide, decide_eq_true_eq] at b
    have h128 : (128#32).toInt = 128 := by decide
    have hz : (0#32).toInt = 0 := by decide
    rw [h128] at b
    rw [hz] at a
    have hw := w.isLt
    rw [BitVec.toInt_eq_toNat_cond] at a b
    split at a <;> omega
  exact ⟨⟨w.toNat, hlt⟩, by simp⟩

attribute [local instance] Cert.Pre_routed_KernelIdeal.Gen.facts

variable (x0 : FVec Ideal S1024x256 .f32) (x1 : FVec Ideal S256x128 .f32) (x2 : IVec S1024x2 32) (x3 : FVec Ideal S4x256x512 .f32)

instance : Subsingleton S_.Idx := ⟨fun a b => funext fun d => d.elim0⟩

theorem pre_parts (h : fn (F := Ideal) x0 x1 x2 x3 = fun _ => 1#1) :
    (∀ i j, ∃ e : Fin 128, x2 (ix2 i j) = BitVec.ofNat 32 e.val) ∧ (∀ i k, Fin' (x0 (ix2 i k))) ∧ (∀ k e, Fin' (x1 (ix2 k e))) := by
  have h' := congrFun h (fun d => d.elim0)
  unfold fn at h'
  obtain ⟨h12, hw⟩ := IntOp.andi_eq_one.mp h'
  obtain ⟨hi, hx⟩ := IntOp.andi_eq_one.mp h12
  refine ⟨fun i j => ?_, fun i k => ?_, fun k e => ?_⟩
  · have t := Host.reduce_andi_all _ _ _ _ _ hi (ix2 i j)
    obtain ⟨p, q⟩ := IntOp.andi_eq_one.mp t
    exact expert_of_range _ p q
  · exact fin_of_abs _ (Host.reduce_andi_all _ _ _ _ _ hx (ix2 i k))
  · exact fin_of_abs _ (Host.reduce_andi_all _ _ _ _ _ hw (ix2 k e))

end Cert.MoE

end
-- ==== Proof.Equal.lean ====
/-
The value claim: the 32 devices' results are the blocks of the reference's result.
-/
module

public import proofs.«01_k».proof.Proof.Kern
public import proofs.«01_k».proof.Proof.Ref
public import proofs.«01_k».proof.Proof.Route
public import proofs.«01_k».proof.Proof.Frames

@[expose] public section

set_option maxRecDepth 16384

noncomputable section

namespace Cert.MoE

open Cert.KernelIdeal Cert.KernelIdeal.Gen
open Idealize.ShloMosaic
open Idealize.ShloMosaic.TcCoe
open Idealize.SL Idealize.SL.Sem

variable (X : (⟨S1024x256, .f32⟩ : BufTy).Contents (Elt Ideal)) (R : (⟨S256x128, .f32⟩ : BufTy).Contents (Elt Ideal))
  (I : (⟨S1024x2, .i32⟩ : BufTy).Contents (Elt Ideal)) (W : (⟨⟨3, ![128, 256, 512]⟩, .f32⟩ : BufTy).Contents (Elt Ideal))

/-- The sum over all experts at the token's weights is the reference's two routed experts at their gates. -/
theorem shares_ref (hx : ∀ i k, Fin' (X (ix2 i k))) (hr : ∀ k e, Fin' (R (ix2 k e))) (i : Fin 1024) (e0 e1 : Fin 128)
    (h0 : I (ix2 i (0 : Fin 2)) = BitVec.ofNat 32 e0.val) (h1 : I (ix2 i (1 : Fin 2)) = BitVec.ofNat 32 e1.val) (h : Fin 512) :
    ∑ E, share X R W i e0 e1 h E = Cert.ReferenceIdeal.Read.val_main_v68 (F := Ideal) X R I W (ix2 i h) := by
  have hs : ∀ e, Fin' (scores X R i e) := fun e => fin_sum _ fun k => fin_mul (hx i k) (hr k e)
  obtain ⟨q0, p0, d0⟩ := softmax_pos (scores X R i) hs e0
  obtain ⟨q1, p1, d1⟩ := softmax_pos (scores X R i) hs e1
  have hm := mixture e0 e1 q0 q1 p0 p1 (fun k => X (ix2 i k)) (fun E k => W (ix3 E k h))
  rw [← d0, ← d1] at hm
  exact hm.trans (Cert.MoERef.ref_apply X R I W i e0 e1 h0 h1 h).symm

/-- The value claim. -/
theorem values : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Pre_routed_KernelIdeal.Gen.facts) := by
  intro m g m' g' hpre hin
  have hX := fun c => (hin c).1
  have hR := fun c => (hin c).2.1
  have hI := fun c => (hin c).2.2.1
  have hW := fun c => (hin c).2.2.2
  obtain ⟨hi, hx, hr⟩ := pre_parts _ _ _ _ (hpre 0)
  rw [hX 0] at hx
  rw [hR 0] at hr
  rw [hI 0] at hi
  refine ⟨Cert.ReferenceIdeal.Read.val_main_v68 (F := Ideal) _ _ _ _, (θ_run defs _ _).mono (fun r hq c => ?_) (run_main (F := Ideal) m g),
    (θ_run Cert.ReferenceIdeal.defs _ _).mono (fun r hq => ⟨((hq 0).1.trans (Cert.ReferenceIdeal.Read.val_main_v68_eq m' 0)), (hq 0).2⟩)
      (Cert.ReferenceIdeal.Value.run (F := Ideal) m' g')⟩
  refine ⟨((hq.1 c 4).trans (finalA_out m g c)).trans ?_, kept m g r hq.1 c⟩
  refine funext fun (x : S32x512.Idx) => ?_
  obtain ⟨a, b, rfl⟩ : ∃ (a : Fin 32) (b : Fin 512), x = ix2 a b := ⟨x 0, x 1, by funext d; fin_cases d <;> rfl⟩
  obtain ⟨e0, h0⟩ := hi (row c a) 0
  obtain ⟨e1, h1⟩ := hi (row c a) 1
  refine (out_apply m g _ _ _ _ hX hR hI hW c a b e0 e1 h0 h1).trans ((shares_ref _ _ _ _ hx hr (row c a) e0 e1 h0 h1 b).trans ?_)
  rw [Layout.block_apply]
  refine congrArg _ (funext fun d => Fin.ext ?_)
  rw [Layout.Tiles.idx_val]
  fin_cases d
  · show 32 * c.val + a.val = c.val * 32 + a.val; omega
  · rfl

end Cert.MoE

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_routed_KernelIdeal
public import proofs.«01_k».proof.Proof.Gen.Pre_routed_ReferenceIdeal
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_routed_KernelIdeal.Gen.facts, Cert.Pre_routed_ReferenceIdeal.Gen.facts,
  Cert.MoE.frame_kernel, Cert.MoE.frame_ideal, Cert.MoE.frame_ideal_pre, Cert.MoE.frame_ref, Cert.MoE.frame_ref_pre, trivial, Cert.MoE.values⟩

end Cert.Proof

end
